-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1000x256 : Shape := ⟨3, ![256, 1000, 256]⟩
abbrev S10x64x256 : Shape := ⟨3, ![10, 64, 256]⟩
abbrev S10x64x64 : Shape := ⟨3, ![10, 64, 64]⟩
abbrev S10x64 : Shape := ⟨2, ![10, 64]⟩
abbrev S10 : Shape := ⟨1, ![10]⟩
abbrev S10x256x64 : Shape := ⟨3, ![10, 256, 64]⟩
abbrev S_ : Shape := ⟨0, ![]⟩
abbrev S10x64x63 : Shape := ⟨3, ![10, 64, 63]⟩
abbrev S10x64x1 : Shape := ⟨3, ![10, 64, 1]⟩
abbrev S10x64x128 : Shape := ⟨3, ![10, 64, 128]⟩
abbrev S10x1x64 : Shape := ⟨3, ![10, 1, 64]⟩
abbrev S10x1x1 : Shape := ⟨3, ![10, 1, 1]⟩
abbrev S10x256x100 : Shape := ⟨3, ![10, 256, 100]⟩
abbrev S1x256x64 : Shape := ⟨3, ![1, 256, 64]⟩
abbrev S1x64x128 : Shape := ⟨3, ![1, 64, 128]⟩
abbrev S1x1x64 : Shape := ⟨3, ![1, 1, 64]⟩
abbrev S1x1x1 : Shape := ⟨3, ![1, 1, 1]⟩
abbrev S1x128x100 : Shape := ⟨3, ![1, 128, 100]⟩
abbrev S2x100x128x256 : Shape := ⟨4, ![2, 100, 128, 256]⟩
abbrev S12800x64 : Shape := ⟨2, ![12800, 64]⟩
abbrev S128x64 : Shape := ⟨2, ![128, 64]⟩
abbrev S2 : Shape := ⟨1, ![2]⟩
abbrev S1 : Shape := ⟨1, ![1]⟩
abbrev S1x1x128x256 : Shape := ⟨4, ![1, 1, 128, 256]⟩
abbrev S128x256 : Shape := ⟨2, ![128, 256]⟩
abbrev S128x1x256 : Shape := ⟨3, ![128, 1, 256]⟩
abbrev S1x100x128x256 : Shape := ⟨4, ![1, 100, 128, 256]⟩
abbrev S100x128x256 : Shape := ⟨3, ![100, 128, 256]⟩
abbrev S12800x256 : Shape := ⟨2, ![12800, 256]⟩
abbrev S256x64 : Shape := ⟨2, ![256, 64]⟩
abbrev S1x64 : Shape := ⟨2, ![1, 64]⟩
abbrev S64x128 : Shape := ⟨2, ![64, 128]⟩
abbrev S1x1 : Shape := ⟨2, ![1, 1]⟩
abbrev S128x128 : Shape := ⟨2, ![128, 128]⟩
abbrev S128x1 : Shape := ⟨2, ![128, 1]⟩
abbrev S1x128x1 : Shape := ⟨3, ![1, 128, 1]⟩
abbrev S256x10x100 : Shape := ⟨3, ![256, 10, 100]⟩
abbrev S256x1000x1 : Shape := ⟨3, ![256, 1000, 1]⟩

abbrev nBuf : Space → Nat
  | .hbm => 19
  | .vmem => 13
  | .smem => 0
  | _ => 0

abbrev bufTy : (tb : Table) → Fin (tcTables nBuf tb) → BufTy
  | .hbm, ⟨0, _⟩ => ⟨S256x1000x256, .f32⟩
  | .hbm, ⟨1, _⟩ => ⟨S10x64x256, .f32⟩
  | .hbm, ⟨2, _⟩ => ⟨S10x64x64, .f32⟩
  | .hbm, ⟨3, _⟩ => ⟨S10x64, .f32⟩
  | .hbm, ⟨4, _⟩ => ⟨S10x64, .f32⟩
  | .hbm, ⟨5, _⟩ => ⟨S10x64, .f32⟩
  | .hbm, ⟨6, _⟩ => ⟨S10, .f32⟩
  | .hbm, ⟨7, _⟩ => ⟨S10x256x64, .f32⟩
  | .hbm, ⟨8, _⟩ => ⟨S10x64x64, .f32⟩
  | .hbm, ⟨9, _⟩ => ⟨S_, .f32⟩
  | .hbm, ⟨10, _⟩ => ⟨S10x64x63, .f32⟩
  | .hbm, ⟨11, _⟩ => ⟨S10x64x1, .f32⟩
  | .hbm, ⟨12, _⟩ => ⟨S10x64x128, .f32⟩
  | .hbm, ⟨13, _⟩ => ⟨S10x64, .f32⟩
  | .hbm, ⟨14, _⟩ => ⟨S10x1x64, .f32⟩
  | .hbm, ⟨15, _⟩ => ⟨S10x1x1, .f32⟩
  | .hbm, ⟨16, _⟩ => ⟨S10x256x100, .f32⟩
  | .hbm, ⟨17, _⟩ => ⟨S256x10x100, .f32⟩
  | .hbm, ⟨18, _⟩ => ⟨S256x1000x1, .f32⟩
  | .local _ .vmem, ⟨0, _⟩ => ⟨S1x256x64, .f32⟩
  | .local _ .vmem, ⟨1, _⟩ => ⟨S1x256x64, .f32⟩
  | .local _ .vmem, ⟨2, _⟩ => ⟨S1x64x128, .f32⟩
  | .local _ .vmem, ⟨3, _⟩ => ⟨S1x64x128, .f32⟩
  | .local _ .vmem, ⟨4, _⟩ => ⟨S1x1x64, .f32⟩
  | .local _ .vmem, ⟨5, _⟩ => ⟨S1x1x64, .f32⟩
  | .local _ .vmem, ⟨6, _⟩ => ⟨S1x1x1, .f32⟩
  | .local _ .vmem, ⟨7, _⟩ => ⟨S1x1x1, .f32⟩
  | .local _ .vmem, ⟨8, _⟩ => ⟨S1x128x100, .f32⟩
  | .local _ .vmem, ⟨9, _⟩ => ⟨S1x128x100, .f32⟩
  | .local _ .vmem, ⟨10, _⟩ => ⟨S2x100x128x256, .f32⟩
  | .local _ .vmem, ⟨11, _⟩ => ⟨S12800x64, .f32⟩
  | .local _ .vmem, ⟨12, _⟩ => ⟨S128x64, .f32⟩
  | _, _ => ⟨S256x1000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 10], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 1 → Nat :=
  let arg1 : BitVec 32 := BitVec.ofNat 32 (i 1).val
  let c2_i32 : BitVec 32 := 2#32
  let v1 : BitVec 32 := Scalar.remsi arg1 c2_i32
  ![v1.toNat]
def k0_off2 (i : grid0.Coords) : Fin 4 → Nat :=
  let arg1 : BitVec 32 := BitVec.ofNat 32 (i 1).val
  let c2_i32 : BitVec 32 := 2#32
  let v1 : BitVec 32 := Scalar.remsi arg1 c2_i32
  let c0_i32_1232 : BitVec 32 := 0#32
  let c0_i32_1233 : BitVec 32 := 0#32
  let c0_i32_1234 : BitVec 32 := 0#32
  ![v1.toNat, 0, 0, 0]
def k0_off3 (i : grid0.Coords) (c0_i32_1231 : BitVec 32) : Fin 3 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c100_i32_1230 : BitVec 32 := 100#32
  let v2635 : BitVec 32 := Scalar.muli arg1 c100_i32_1230
  let v2636 : BitVec 32 := Scalar.addi v2635 c0_i32_1231
  let c0_i32_1235 : BitVec 32 := 0#32
  ![v0.toNat, v2636.toNat, 0]
def k0_off4 (i : grid0.Coords) : Fin 4 → Nat :=
  let arg1 : BitVec 32 := BitVec.ofNat 32 (i 1).val
  let c2_i32 : BitVec 32 := 2#32
  let v1 : BitVec 32 := Scalar.remsi arg1 c2_i32
  let c1_i32_1238 : BitVec 32 := 1#32
  let c0_i32_1239 : BitVec 32 := 0#32
  let c0_i32_1240 : BitVec 32 := 0#32
  ![v1.toNat, 1, 0, 0]
def k0_off5 (i : grid0.Coords) : Fin 4 → Nat :=
  let arg1 : BitVec 32 := BitVec.ofNat 32 (i 1).val
  let c2_i32 : BitVec 32 := 2#32
  let v1 : BitVec 32 := Scalar.remsi arg1 c2_i32
  let c2_i32_1244 : BitVec 32 := 2#32
  let c0_i32_1245 : BitVec 32 := 0#32
  let c0_i32_1246 : BitVec 32 := 0#32
  ![v1.toNat, 2, 0, 0]
def k0_off6 (i : grid0.Coords) : Fin 4 → Nat :=
  let arg1 : BitVec 32 := BitVec.ofNat 32 (i 1).val
  let c2_i32 : BitVec 32 := 2#32
  let v1 : BitVec 32 := Scalar.remsi arg1 c2_i32
  let c3_i32_1250 : BitVec 32 := 3#32
  let c0_i32_1251 : BitVec 32 := 0#32
  let c0_i32_1252 : BitVec 32 := 0#32
  ![v1.toNat, 3, 0, 0]
def k0_off7 (i : grid0.Coords) : Fin 4 → Nat :=
  let arg1 : BitVec 32 := BitVec.ofNat 32 (i 1).val
  let c2_i32 : BitVec 32 := 2#32
  let v1 : BitVec 32 := Scalar.remsi arg1 c2_i32
  let c4_i32_1256 : BitVec 32 := 4#32
  let c0_i32_1257 : BitVec 32 := 0#32
  let c0_i32_1258 : BitVec 32 := 0#32
  ![v1.toNat, 4, 0, 0]
def k0_off8 (i : grid0.Coords) : Fin 4 → Nat :=
  let arg1 : BitVec 32 := BitVec.ofNat 32 (i 1).val
  let c2_i32 : BitVec 32 := 2#32
  let v1 : BitVec 32 := Scalar.remsi arg1 c2_i32
  let c5_i32_1262 : BitVec 32 := 5#32
  let c0_i32_1263 : BitVec 32 := 0#32
  let c0_i32_1264 : BitVec 32 := 0#32
  ![v1.toNat, 5, 0, 0]
def k0_off9 (i : grid0.Coords) : Fin 4 → Nat :=
  let arg1 : BitVec 32 := BitVec.ofNat 32 (i 1).val
  let c2_i32 : BitVec 32 := 2#32
  let v1 : BitVec 32 := Scalar.remsi arg1 c2_i32
  let c6_i32_1268 : BitVec 32 := 6#32
  let c0_i32_1269 : BitVec 32 := 0#32
  let c0_i32_1270 : BitVec 32 := 0#32
  ![v1.toNat, 6, 0, 0]
def k0_off10 (i : grid0.Coords) : Fin 4 → Nat :=
  let arg1 : BitVec 32 := BitVec.ofNat 32 (i 1).val
  let c2_i32 : BitVec 32 := 2#32
  let v1 : BitVec 32 := Scalar.remsi arg1 c2_i32
  let c7_i32_1274 : BitVec 32 := 7#32
  let c0_i32_1275 : BitVec 32 := 0#32
  let c0_i32_1276 : BitVec 32 := 0#32
  ![v1.toNat, 7, 0, 0]
def k0_off11 (i : grid0.Coords) : Fin 4 → Nat :=
  let arg1 : BitVec 32 := BitVec.ofNat 32 (i 1).val
  let c2_i32 : BitVec 32 := 2#32
  let v1 : BitVec 32 := Scalar.remsi arg1 c2_i32
  let c8_i32_1280 : BitVec 32 := 8#32
  let c0_i32_1281 : BitVec 32 := 0#32
  let c0_i32_1282 : BitVec 32 := 0#32
  ![v1.toNat, 8, 0, 0]
def k0_off12 (i : grid0.Coords) : Fin 4 → Nat :=
  let arg1 : BitVec 32 := BitVec.ofNat 32 (i 1).val
  let c2_i32 : BitVec 32 := 2#32
  let v1 : BitVec 32 := Scalar.remsi arg1 c2_i32
  let c9_i32_1286 : BitVec 32 := 9#32
  let c0_i32_1287 : BitVec 32 := 0#32
  let c0_i32_1288 : BitVec 32 := 0#32
  ![v1.toNat, 9, 0, 0]
def k0_off13 (i : grid0.Coords) : Fin 4 → Nat :=
  let arg1 : BitVec 32 := BitVec.ofNat 32 (i 1).val
  let c2_i32 : BitVec 32 := 2#32
  let v1 : BitVec 32 := Scalar.remsi arg1 c2_i32
  let c10_i32_1292 : BitVec 32 := 10#32
  let c0_i32_1293 : BitVec 32 := 0#32
  let c0_i32_1294 : BitVec 32 := 0#32
  ![v1.toNat, 10, 0, 0]
def k0_off14 (i : grid0.Coords) : Fin 4 → Nat :=
  let arg1 : BitVec 32 := BitVec.ofNat 32 (i 1).val
  let c2_i32 : BitVec 32 := 2#32
  let v1 : BitVec 32 := Scalar.remsi arg1 c2_i32
  let c11_i32_1298 : BitVec 32 := 11#32
  let c0_i32_1299 : BitVec 32 := 0#32
  let c0_i32_1300 : BitVec 32 := 0#32
  ![v1.toNat, 11, 0, 0]
def k0_off15 (i : grid0.Coords) : Fin 4 → Nat :=
  let arg1 : BitVec 32 := BitVec.ofNat 32 (i 1).val
  let c2_i32 : BitVec 32 := 2#32
  let v1 : BitVec 32 := Scalar.remsi arg1 c2_i32
  let c12_i32_1304 : BitVec 32 := 12#32
  let c0_i32_1305 : BitVec 32 := 0#32
  let c0_i32_1306 : BitVec 32 := 0#32
  ![v1.toNat, 12, 0, 0]
def k0_off16 (i : grid0.Coords) : Fin 4 → Nat :=
  let arg1 : BitVec 32 := BitVec.ofNat 32 (i 1).val
  let c2_i32 : BitVec 32 := 2#32
  let v1 : BitVec 32 := Scalar.remsi arg1 c2_i32
  let c13_i32_1310 : BitVec 32 := 13#32
  let c0_i32_1311 : BitVec 32 := 0#32
  let c0_i32_1312 : BitVec 32 := 0#32
  ![v1.toNat, 13, 0, 0]
def k0_off17 (i : grid0.Coords) : Fin 4 → Nat :=
  let arg1 : BitVec 32 := BitVec.ofNat 32 (i 1).val
  let c2_i32 : BitVec 32 := 2#32
  let v1 : BitVec 32 := Scalar.remsi arg1 c2_i32
  let c14_i32_1316 : BitVec 32 := 14#32
  let c0_i32_1317 : BitVec 32 := 0#32
  let c0_i32_1318 : BitVec 32 := 0#32
  ![v1.toNat, 14, 0, 0]
def k0_off18 (i : grid0.Coords) : Fin 4 → Nat :=
  let arg1 : BitVec 32 := BitVec.ofNat 32 (i 1).val
  let c2_i32 : BitVec 32 := 2#32
  let v1 : BitVec 32 := Scalar.remsi arg1 c2_i32
  let c15_i32_1322 : BitVec 32 := 15#32
  let c0_i32_1323 : BitVec 32 := 0#32
  let c0_i32_1324 : BitVec 32 := 0#32
  ![v1.toNat, 15, 0, 0]
def k0_off19 (i : grid0.Coords) : Fin 4 → Nat :=
  let arg1 : BitVec 32 := BitVec.ofNat 32 (i 1).val
  let c2_i32 : BitVec 32 := 2#32
  let v1 : BitVec 32 := Scalar.remsi arg1 c2_i32
  let c16_i32_1328 : BitVec 32 := 16#32
  let c0_i32_1329 : BitVec 32 := 0#32
  let c0_i32_1330 : BitVec 32 := 0#32
  ![v1.toNat, 16, 0, 0]
def k0_off20 (i : grid0.Coords) : Fin 4 → Nat :=
  let arg1 : BitVec 32 := BitVec.ofNat 32 (i 1).val
  let c2_i32 : BitVec 32 := 2#32
  let v1 : BitVec 32 := Scalar.remsi arg1 c2_i32
  let c17_i32_1334 : BitVec 32 := 17#32
  let c0_i32_1335 : BitVec 32 := 0#32
  let c0_i32_1336 : BitVec 32 := 0#32
  ![v1.toNat, 17, 0, 0]
def k0_off21 (i : grid0.Coords) : Fin 4 → Nat :=
  let arg1 : BitVec 32 := BitVec.ofNat 32 (i 1).val
  let c2_i32 : BitVec 32 := 2#32
  let v1 : BitVec 32 := Scalar.remsi arg1 c2_i32
  let c18_i32_1340 : BitVec 32 := 18#32
  let c0_i32_1341 : BitVec 32 := 0#32
  let c0_i32_1342 : BitVec 32 := 0#32
  ![v1.toNat, 18, 0, 0]
def k0_off22 (i : grid0.Coords) : Fin 4 → Nat :=
  let arg1 : BitVec 32 := BitVec.ofNat 32 (i 1).val
  let c2_i32 : BitVec 32 := 2#32
  let v1 : BitVec 32 := Scalar.remsi arg1 c2_i32
  let c19_i32_1346 : BitVec 32 := 19#32
  let c0_i32_1347 : BitVec 32 := 0#32
  let c0_i32_1348 : BitVec 32 := 0#32
  ![v1.toNat, 19, 0, 0]
def k0_off23 (i : grid0.Coords) : Fin 4 → Nat :=
  let arg1 : BitVec 32 := BitVec.ofNat 32 (i 1).val
  let c2_i32 : BitVec 32 := 2#32
  let v1 : BitVec 32 := Scalar.remsi arg1 c2_i32
  let c20_i32_1352 : BitVec 32 := 20#32
  let c0_i32_1353 : BitVec 32 := 0#32
  let c0_i32_1354 : BitVec 32 := 0#32
  ![v1.toNat, 20, 0, 0]
def k0_off24 (i : grid0.Coords) : Fin 4 → Nat :=
  let arg1 : BitVec 32 := BitVec.ofNat 32 (i 1).val
  let c2_i32 : BitVec 32 := 2#32
  let v1 : BitVec 32 := Scalar.remsi arg1 c2_i32
  let c21_i32_1358 : BitVec 32 := 21#32
  let c0_i32_1359 : BitVec 32 := 0#32
  let c0_i32_1360 : BitVec 32 := 0#32
  ![v1.toNat, 21, 0, 0]
def k0_off25 (i : grid0.Coords) : Fin 4 → Nat :=
  let arg1 : BitVec 32 := BitVec.ofNat 32 (i 1).val
  let c2_i32 : BitVec 32 := 2#32
  let v1 : BitVec 32 := Scalar.remsi arg1 c2_i32
  let c22_i32_1364 : BitVec 32 := 22#32
  let c0_i32_1365 : BitVec 32 := 0#32
  let c0_i32_1366 : BitVec 32 := 0#32
  ![v1.toNat, 22, 0, 0]
def k0_off26 (i : grid0.Coords) : Fin 4 → Nat :=
  let arg1 : BitVec 32 := BitVec.ofNat 32 (i 1).val
  let c2_i32 : BitVec 32 := 2#32
  let v1 : BitVec 32 := Scalar.remsi arg1 c2_i32
  let c23_i32_1370 : BitVec 32 := 23#32
  let c0_i32_1371 : BitVec 32 := 0#32
  let c0_i32_1372 : BitVec 32 := 0#32
  ![v1.toNat, 23, 0, 0]
def k0_off27 (i : grid0.Coords) : Fin 4 → Nat :=
  let arg1 : BitVec 32 := BitVec.ofNat 32 (i 1).val
  let c2_i32 : BitVec 32 := 2#32
  let v1 : BitVec 32 := Scalar.remsi arg1 c2_i32
  let c24_i32_1376 : BitVec 32 := 24#32
  let c0_i32_1377 : BitVec 32 := 0#32
  let c0_i32_1378 : BitVec 32 := 0#32
  ![v1.toNat, 24, 0, 0]
def k0_off28 (i : grid0.Coords) : Fin 4 → Nat :=
  let arg1 : BitVec 32 := BitVec.ofNat 32 (i 1).val
  let c2_i32 : BitVec 32 := 2#32
  let v1 : BitVec 32 := Scalar.remsi arg1 c2_i32
  let c25_i32_1382 : BitVec 32 := 25#32
  let c0_i32_1383 : BitVec 32 := 0#32
  let c0_i32_1384 : BitVec 32 := 0#32
  ![v1.toNat, 25, 0, 0]
def k0_off29 (i : grid0.Coords) : Fin 4 → Nat :=
  let arg1 : BitVec 32 := BitVec.ofNat 32 (i 1).val
  let c2_i32 : BitVec 32 := 2#32
  let v1 : BitVec 32 := Scalar.remsi arg1 c2_i32
  let c26_i32_1388 : BitVec 32 := 26#32
  let c0_i32_1389 : BitVec 32 := 0#32
  let c0_i32_1390 : BitVec 32 := 0#32
  ![v1.toNat, 26, 0, 0]
def k0_off30 (i : grid0.Coords) : Fin 4 → Nat :=
  let arg1 : BitVec 32 := BitVec.ofNat 32 (i 1).val
  let c2_i32 : BitVec 32 := 2#32
  let v1 : BitVec 32 := Scalar.remsi arg1 c2_i32
  let c27_i32_1394 : BitVec 32 := 27#32
  let c0_i32_1395 : BitVec 32 := 0#32
  let c0_i32_1396 : BitVec 32 := 0#32
  ![v1.toNat, 27, 0, 0]
def k0_off31 (i : grid0.Coords) : Fin 4 → Nat :=
  let arg1 : BitVec 32 := BitVec.ofNat 32 (i 1).val
  let c2_i32 : BitVec 32 := 2#32
  let v1 : BitVec 32 := Scalar.remsi arg1 c2_i32
  let c28_i32_1400 : BitVec 32 := 28#32
  let c0_i32_1401 : BitVec 32 := 0#32
  let c0_i32_1402 : BitVec 32 := 0#32
  ![v1.toNat, 28, 0, 0]
def k0_off32 (i : grid0.Coords) : Fin 4 → Nat :=
  let arg1 : BitVec 32 := BitVec.ofNat 32 (i 1).val
  let c2_i32 : BitVec 32 := 2#32
  let v1 : BitVec 32 := Scalar.remsi arg1 c2_i32
  let c29_i32_1406 : BitVec 32 := 29#32
  let c0_i32_1407 : BitVec 32 := 0#32
  let c0_i32_1408 : BitVec 32 := 0#32
  ![v1.toNat, 29, 0, 0]
def k0_off33 (i : grid0.Coords) : Fin 4 → Nat :=
  let arg1 : BitVec 32 := BitVec.ofNat 32 (i 1).val
  let c2_i32 : BitVec 32 := 2#32
  let v1 : BitVec 32 := Scalar.remsi arg1 c2_i32
  let c30_i32_1412 : BitVec 32 := 30#32
  let c0_i32_1413 : BitVec 32 := 0#32
  let c0_i32_1414 : BitVec 32 := 0#32
  ![v1.toNat, 30, 0, 0]
def k0_off34 (i : grid0.Coords) : Fin 4 → Nat :=
  let arg1 : BitVec 32 := BitVec.ofNat 32 (i 1).val
  let c2_i32 : BitVec 32 := 2#32
  let v1 : BitVec 32 := Scalar.remsi arg1 c2_i32
  let c31_i32_1418 : BitVec 32 := 31#32
  let c0_i32_1419 : BitVec 32 := 0#32
  let c0_i32_1420 : BitVec 32 := 0#32
  ![v1.toNat, 31, 0, 0]
def k0_off35 (i : grid0.Coords) : Fin 4 → Nat :=
  let arg1 : BitVec 32 := BitVec.ofNat 32 (i 1).val
  let c2_i32 : BitVec 32 := 2#32
  let v1 : BitVec 32 := Scalar.remsi arg1 c2_i32
  let c32_i32_1424 : BitVec 32 := 32#32
  let c0_i32_1425 : BitVec 32 := 0#32
  let c0_i32_1426 : BitVec 32 := 0#32
  ![v1.toNat, 32, 0, 0]
def k0_off36 (i : grid0.Coords) : Fin 4 → Nat :=
  let arg1 : BitVec 32 := BitVec.ofNat 32 (i 1).val
  let c2_i32 : BitVec 32 := 2#32
  let v1 : BitVec 32 := Scalar.remsi arg1 c2_i32
  let c33_i32_1430 : BitVec 32 := 33#32
  let c0_i32_1431 : BitVec 32 := 0#32
  let c0_i32_1432 : BitVec 32 := 0#32
  ![v1.toNat, 33, 0, 0]
def k0_off37 (i : grid0.Coords) : Fin 4 → Nat :=
  let arg1 : BitVec 32 := BitVec.ofNat 32 (i 1).val
  let c2_i32 : BitVec 32 := 2#32
  let v1 : BitVec 32 := Scalar.remsi arg1 c2_i32
  let c34_i32_1436 : BitVec 32 := 34#32
  let c0_i32_1437 : BitVec 32 := 0#32
  let c0_i32_1438 : BitVec 32 := 0#32
  ![v1.toNat, 34, 0, 0]
def k0_off38 (i : grid0.Coords) : Fin 4 → Nat :=
  let arg1 : BitVec 32 := BitVec.ofNat 32 (i 1).val
  let c2_i32 : BitVec 32 := 2#32
  let v1 : BitVec 32 := Scalar.remsi arg1 c2_i32
  let c35_i32_1442 : BitVec 32 := 35#32
  let c0_i32_1443 : BitVec 32 := 0#32
  let c0_i32_1444 : BitVec 32 := 0#32
  ![v1.toNat, 35, 0, 0]
def k0_off39 (i : grid0.Coords) : Fin 4 → Nat :=
  let arg1 : BitVec 32 := BitVec.ofNat 32 (i 1).val
  let c2_i32 : BitVec 32 := 2#32
  let v1 : BitVec 32 := Scalar.remsi arg1 c2_i32
  let c36_i32_1448 : BitVec 32 := 36#32
  let c0_i32_1449 : BitVec 32 := 0#32
  let c0_i32_1450 : BitVec 32 := 0#32
  ![v1.toNat, 36, 0, 0]
def k0_off40 (i : grid0.Coords) : Fin 4 → Nat :=
  let arg1 : BitVec 32 := BitVec.ofNat 32 (i 1).val
  let c2_i32 : BitVec 32 := 2#32
  let v1 : BitVec 32 := Scalar.remsi arg1 c2_i32
  let c37_i32_1454 : BitVec 32 := 37#32
  let c0_i32_1455 : BitVec 32 := 0#32
  let c0_i32_1456 : BitVec 32 := 0#32
  ![v1.toNat, 37, 0, 0]
def k0_off41 (i : grid0.Coords) : Fin 4 → Nat :=
  let arg1 : BitVec 32 := BitVec.ofNat 32 (i 1).val
  let c2_i32 : BitVec 32 := 2#32
  let v1 : BitVec 32 := Scalar.remsi arg1 c2_i32
  let c38_i32_1460 : BitVec 32 := 38#32
  let c0_i32_1461 : BitVec 32 := 0#32
  let c0_i32_1462 : BitVec 32 := 0#32
  ![v1.toNat, 38, 0, 0]
def k0_off42 (i : grid0.Coords) : Fin 4 → Nat :=
  let arg1 : BitVec 32 := BitVec.ofNat 32 (i 1).val
  let c2_i32 : BitVec 32 := 2#32
  let v1 : BitVec 32 := Scalar.remsi arg1 c2_i32
  let c39_i32_1466 : BitVec 32 := 39#32
  let c0_i32_1467 : BitVec 32 := 0#32
  let c0_i32_1468 : BitVec 32 := 0#32
  ![v1.toNat, 39, 0, 0]
def k0_off43 (i : grid0.Coords) : Fin 4 → Nat :=
  let arg1 : BitVec 32 := BitVec.ofNat 32 (i 1).val
  let c2_i32 : BitVec 32 := 2#32
  let v1 : BitVec 32 := Scalar.remsi arg1 c2_i32
  let c40_i32_1472 : BitVec 32 := 40#32
  let c0_i32_1473 : BitVec 32 := 0#32
  let c0_i32_1474 : BitVec 32 := 0#32
  ![v1.toNat, 40, 0, 0]
def k0_off44 (i : grid0.Coords) : Fin 4 → Nat :=
  let arg1 : BitVec 32 := BitVec.ofNat 32 (i 1).val
  let c2_i32 : BitVec 32 := 2#32
  let v1 : BitVec 32 := Scalar.remsi arg1 c2_i32
  let c41_i32_1478 : BitVec 32 := 41#32
  let c0_i32_1479 : BitVec 32 := 0#32
  let c0_i32_1480 : BitVec 32 := 0#32
  ![v1.toNat, 41, 0, 0]
def k0_off45 (i : grid0.Coords) : Fin 4 → Nat :=
  let arg1 : BitVec 32 := BitVec.ofNat 32 (i 1).val
  let c2_i32 : BitVec 32 := 2#32
  let v1 : BitVec 32 := Scalar.remsi arg1 c2_i32
  let c42_i32_1484 : BitVec 32 := 42#32
  let c0_i32_1485 : BitVec 32 := 0#32
  let c0_i32_1486 : BitVec 32 := 0#32
  ![v1.toNat, 42, 0, 0]
def k0_off46 (i : grid0.Coords) : Fin 4 → Nat :=
  let arg1 : BitVec 32 := BitVec.ofNat 32 (i 1).val
  let c2_i32 : BitVec 32 := 2#32
  let v1 : BitVec 32 := Scalar.remsi arg1 c2_i32
  let c43_i32_1490 : BitVec 32 := 43#32
  let c0_i32_1491 : BitVec 32 := 0#32
  let c0_i32_1492 : BitVec 32 := 0#32
  ![v1.toNat, 43, 0, 0]
def k0_off47 (i : grid0.Coords) : Fin 4 → Nat :=
  let arg1 : BitVec 32 := BitVec.ofNat 32 (i 1).val
  let c2_i32 : BitVec 32 := 2#32
  let v1 : BitVec 32 := Scalar.remsi arg1 c2_i32
  let c44_i32_1496 : BitVec 32 := 44#32
  let c0_i32_1497 : BitVec 32 := 0#32
  let c0_i32_1498 : BitVec 32 := 0#32
  ![v1.toNat, 44, 0, 0]
def k0_off48 (i : grid0.Coords) : Fin 4 → Nat :=
  let arg1 : BitVec 32 := BitVec.ofNat 32 (i 1).val
  let c2_i32 : BitVec 32 := 2#32
  let v1 : BitVec 32 := Scalar.remsi arg1 c2_i32
  let c45_i32_1502 : BitVec 32 := 45#32
  let c0_i32_1503 : BitVec 32 := 0#32
  let c0_i32_1504 : BitVec 32 := 0#32
  ![v1.toNat, 45, 0, 0]
def k0_off49 (i : grid0.Coords) : Fin 4 → Nat :=
  let arg1 : BitVec 32 := BitVec.ofNat 32 (i 1).val
  let c2_i32 : BitVec 32 := 2#32
  let v1 : BitVec 32 := Scalar.remsi arg1 c2_i32
  let c46_i32_1508 : BitVec 32 := 46#32
  let c0_i32_1509 : BitVec 32 := 0#32
  let c0_i32_1510 : BitVec 32 := 0#32
  ![v1.toNat, 46, 0, 0]
def k0_off50 (i : grid0.Coords) : Fin 4 → Nat :=
  let arg1 : BitVec 32 := BitVec.ofNat 32 (i 1).val
  let c2_i32 : BitVec 32 := 2#32
  let v1 : BitVec 32 := Scalar.remsi arg1 c2_i32
  let c47_i32_1514 : BitVec 32 := 47#32
  let c0_i32_1515 : BitVec 32 := 0#32
  let c0_i32_1516 : BitVec 32 := 0#32
  ![v1.toNat, 47, 0, 0]
def k0_off51 (i : grid0.Coords) : Fin 4 → Nat :=
  let arg1 : BitVec 32 := BitVec.ofNat 32 (i 1).val
  let c2_i32 : BitVec 32 := 2#32
  let v1 : BitVec 32 := Scalar.remsi arg1 c2_i32
  let c48_i32_1520 : BitVec 32 := 48#32
  let c0_i32_1521 : BitVec 32 := 0#32
  let c0_i32_1522 : BitVec 32 := 0#32
  ![v1.toNat, 48, 0, 0]
def k0_off52 (i : grid0.Coords) : Fin 4 → Nat :=
  let arg1 : BitVec 32 := BitVec.ofNat 32 (i 1).val
  let c2_i32 : BitVec 32 := 2#32
  let v1 : BitVec 32 := Scalar.remsi arg1 c2_i32
  let c49_i32_1526 : BitVec 32 := 49#32
  let c0_i32_1527 : BitVec 32 := 0#32
  let c0_i32_1528 : BitVec 32 := 0#32
  ![v1.toNat, 49, 0, 0]
def k0_off53 (i : grid0.Coords) : Fin 4 → Nat :=
  let arg1 : BitVec 32 := BitVec.ofNat 32 (i 1).val
  let c2_i32 : BitVec 32 := 2#32
  let v1 : BitVec 32 := Scalar.remsi arg1 c2_i32
  let c50_i32_1532 : BitVec 32 := 50#32
  let c0_i32_1533 : BitVec 32 := 0#32
  let c0_i32_1534 : BitVec 32 := 0#32
  ![v1.toNat, 50, 0, 0]
def k0_off54 (i : grid0.Coords) : Fin 4 → Nat :=
  let arg1 : BitVec 32 := BitVec.ofNat 32 (i 1).val
  let c2_i32 : BitVec 32 := 2#32
  let v1 : BitVec 32 := Scalar.remsi arg1 c2_i32
  let c51_i32_1538 : BitVec 32 := 51#32
  let c0_i32_1539 : BitVec 32 := 0#32
  let c0_i32_1540 : BitVec 32 := 0#32
  ![v1.toNat, 51, 0, 0]
def k0_off55 (i : grid0.Coords) : Fin 4 → Nat :=
  let arg1 : BitVec 32 := BitVec.ofNat 32 (i 1).val
  let c2_i32 : BitVec 32 := 2#32
  let v1 : BitVec 32 := Scalar.remsi arg1 c2_i32
  let c52_i32_1544 : BitVec 32 := 52#32
  let c0_i32_1545 : BitVec 32 := 0#32
  let c0_i32_1546 : BitVec 32 := 0#32
  ![v1.toNat, 52, 0, 0]
def k0_off56 (i : grid0.Coords) : Fin 4 → Nat :=
  let arg1 : BitVec 32 := BitVec.ofNat 32 (i 1).val
  let c2_i32 : BitVec 32 := 2#32
  let v1 : BitVec 32 := Scalar.remsi arg1 c2_i32
  let c53_i32_1550 : BitVec 32 := 53#32
  let c0_i32_1551 : BitVec 32 := 0#32
  let c0_i32_1552 : BitVec 32 := 0#32
  ![v1.toNat, 53, 0, 0]
def k0_off57 (i : grid0.Coords) : Fin 4 → Nat :=
  let arg1 : BitVec 32 := BitVec.ofNat 32 (i 1).val
  let c2_i32 : BitVec 32 := 2#32
  let v1 : BitVec 32 := Scalar.remsi arg1 c2_i32
  let c54_i32_1556 : BitVec 32 := 54#32
  let c0_i32_1557 : BitVec 32 := 0#32
  let c0_i32_1558 : BitVec 32 := 0#32
  ![v1.toNat, 54, 0, 0]
def k0_off58 (i : grid0.Coords) : Fin 4 → Nat :=
  let arg1 : BitVec 32 := BitVec.ofNat 32 (i 1).val
  let c2_i32 : BitVec 32 := 2#32
  let v1 : BitVec 32 := Scalar.remsi arg1 c2_i32
  let c55_i32_1562 : BitVec 32 := 55#32
  let c0_i32_1563 : BitVec 32 := 0#32
  let c0_i32_1564 : BitVec 32 := 0#32
  ![v1.toNat, 55, 0, 0]
def k0_off59 (i : grid0.Coords) : Fin 4 → Nat :=
  let arg1 : BitVec 32 := BitVec.ofNat 32 (i 1).val
  let c2_i32 : BitVec 32 := 2#32
  let v1 : BitVec 32 := Scalar.remsi arg1 c2_i32
  let c56_i32_1568 : BitVec 32 := 56#32
  let c0_i32_1569 : BitVec 32 := 0#32
  let c0_i32_1570 : BitVec 32 := 0#32
  ![v1.toNat, 56, 0, 0]
def k0_off60 (i : grid0.Coords) : Fin 4 → Nat :=
  let arg1 : BitVec 32 := BitVec.ofNat 32 (i 1).val
  let c2_i32 : BitVec 32 := 2#32
  let v1 : BitVec 32 := Scalar.remsi arg1 c2_i32
  let c57_i32_1574 : BitVec 32 := 57#32
  let c0_i32_1575 : BitVec 32 := 0#32
  let c0_i32_1576 : BitVec 32 := 0#32
  ![v1.toNat, 57, 0, 0]
def k0_off61 (i : grid0.Coords) : Fin 4 → Nat :=
  let arg1 : BitVec 32 := BitVec.ofNat 32 (i 1).val
  let c2_i32 : BitVec 32 := 2#32
  let v1 : BitVec 32 := Scalar.remsi arg1 c2_i32
  let c58_i32_1580 : BitVec 32 := 58#32
  let c0_i32_1581 : BitVec 32 := 0#32
  let c0_i32_1582 : BitVec 32 := 0#32
  ![v1.toNat, 58, 0, 0]
def k0_off62 (i : grid0.Coords) : Fin 4 → Nat :=
  let arg1 : BitVec 32 := BitVec.ofNat 32 (i 1).val
  let c2_i32 : BitVec 32 := 2#32
  let v1 : BitVec 32 := Scalar.remsi arg1 c2_i32
  let c59_i32_1586 : BitVec 32 := 59#32
  let c0_i32_1587 : BitVec 32 := 0#32
  let c0_i32_1588 : BitVec 32 := 0#32
  ![v1.toNat, 59, 0, 0]
def k0_off63 (i : grid0.Coords) : Fin 4 → Nat :=
  let arg1 : BitVec 32 := BitVec.ofNat 32 (i 1).val
  let c2_i32 : BitVec 32 := 2#32
  let v1 : BitVec 32 := Scalar.remsi arg1 c2_i32
  let c60_i32_1592 : BitVec 32 := 60#32
  let c0_i32_1593 : BitVec 32 := 0#32
  let c0_i32_1594 : BitVec 32 := 0#32
  ![v1.toNat, 60, 0, 0]
def k0_off64 (i : grid0.Coords) : Fin 4 → Nat :=
  let arg1 : BitVec 32 := BitVec.ofNat 32 (i 1).val
  let c2_i32 : BitVec 32 := 2#32
  let v1 : BitVec 32 := Scalar.remsi arg1 c2_i32
  let c61_i32_1598 : BitVec 32 := 61#32
  let c0_i32_1599 : BitVec 32 := 0#32
  let c0_i32_1600 : BitVec 32 := 0#32
  ![v1.toNat, 61, 0, 0]
def k0_off65 (i : grid0.Coords) : Fin 4 → Nat :=
  let arg1 : BitVec 32 := BitVec.ofNat 32 (i 1).val
  let c2_i32 : BitVec 32 := 2#32
  let v1 : BitVec 32 := Scalar.remsi arg1 c2_i32
  let c62_i32_1604 : BitVec 32 := 62#32
  let c0_i32_1605 : BitVec 32 := 0#32
  let c0_i32_1606 : BitVec 32 := 0#32
  ![v1.toNat, 62, 0, 0]
def k0_off66 (i : grid0.Coords) : Fin 4 → Nat :=
  let arg1 : BitVec 32 := BitVec.ofNat 32 (i 1).val
  let c2_i32 : BitVec 32 := 2#32
  let v1 : BitVec 32 := Scalar.remsi arg1 c2_i32
  let c63_i32_1610 : BitVec 32 := 63#32
  let c0_i32_1611 : BitVec 32 := 0#32
  let c0_i32_1612 : BitVec 32 := 0#32
  ![v1.toNat, 63, 0, 0]
def k0_off67 (i : grid0.Coords) : Fin 4 → Nat :=
  let arg1 : BitVec 32 := BitVec.ofNat 32 (i 1).val
  let c2_i32 : BitVec 32 := 2#32
  let v1 : BitVec 32 := Scalar.remsi arg1 c2_i32
  let c64_i32_1616 : BitVec 32 := 64#32
  let c0_i32_1617 : BitVec 32 := 0#32
  let c0_i32_1618 : BitVec 32 := 0#32
  ![v1.toNat, 64, 0, 0]
def k0_off68 (i : grid0.Coords) : Fin 4 → Nat :=
  let arg1 : BitVec 32 := BitVec.ofNat 32 (i 1).val
  let c2_i32 : BitVec 32 := 2#32
  let v1 : BitVec 32 := Scalar.remsi arg1 c2_i32
  let c65_i32_1622 : BitVec 32 := 65#32
  let c0_i32_1623 : BitVec 32 := 0#32
  let c0_i32_1624 : BitVec 32 := 0#32
  ![v1.toNat, 65, 0, 0]
def k0_off69 (i : grid0.Coords) : Fin 4 → Nat :=
  let arg1 : BitVec 32 := BitVec.ofNat 32 (i 1).val
  let c2_i32 : BitVec 32 := 2#32
  let v1 : BitVec 32 := Scalar.remsi arg1 c2_i32
  let c66_i32_1628 : BitVec 32 := 66#32
  let c0_i32_1629 : BitVec 32 := 0#32
  let c0_i32_1630 : BitVec 32 := 0#32
  ![v1.toNat, 66, 0, 0]
def k0_off70 (i : grid0.Coords) : Fin 4 → Nat :=
  let arg1 : BitVec 32 := BitVec.ofNat 32 (i 1).val
  let c2_i32 : BitVec 32 := 2#32
  let v1 : BitVec 32 := Scalar.remsi arg1 c2_i32
  let c67_i32_1634 : BitVec 32 := 67#32
  let c0_i32_1635 : BitVec 32 := 0#32
  let c0_i32_1636 : BitVec 32 := 0#32
  ![v1.toNat, 67, 0, 0]
def k0_off71 (i : grid0.Coords) : Fin 4 → Nat :=
  let arg1 : BitVec 32 := BitVec.ofNat 32 (i 1).val
  let c2_i32 : BitVec 32 := 2#32
  let v1 : BitVec 32 := Scalar.remsi arg1 c2_i32
  let c68_i32_1640 : BitVec 32 := 68#32
  let c0_i32_1641 : BitVec 32 := 0#32
  let c0_i32_1642 : BitVec 32 := 0#32
  ![v1.toNat, 68, 0, 0]
def k0_off72 (i : grid0.Coords) : Fin 4 → Nat :=
  let arg1 : BitVec 32 := BitVec.ofNat 32 (i 1).val
  let c2_i32 : BitVec 32 := 2#32
  let v1 : BitVec 32 := Scalar.remsi arg1 c2_i32
  let c69_i32_1646 : BitVec 32 := 69#32
  let c0_i32_1647 : BitVec 32 := 0#32
  let c0_i32_1648 : BitVec 32 := 0#32
  ![v1.toNat, 69, 0, 0]
def k0_off73 (i : grid0.Coords) : Fin 4 → Nat :=
  let arg1 : BitVec 32 := BitVec.ofNat 32 (i 1).val
  let c2_i32 : BitVec 32 := 2#32
  let v1 : BitVec 32 := Scalar.remsi arg1 c2_i32
  let c70_i32_1652 : BitVec 32 := 70#32
  let c0_i32_1653 : BitVec 32 := 0#32
  let c0_i32_1654 : BitVec 32 := 0#32
  ![v1.toNat, 70, 0, 0]
def k0_off74 (i : grid0.Coords) : Fin 4 → Nat :=
  let arg1 : BitVec 32 := BitVec.ofNat 32 (i 1).val
  let c2_i32 : BitVec 32 := 2#32
  let v1 : BitVec 32 := Scalar.remsi arg1 c2_i32
  let c71_i32_1658 : BitVec 32 := 71#32
  let c0_i32_1659 : BitVec 32 := 0#32
  let c0_i32_1660 : BitVec 32 := 0#32
  ![v1.toNat, 71, 0, 0]
def k0_off75 (i : grid0.Coords) : Fin 4 → Nat :=
  let arg1 : BitVec 32 := BitVec.ofNat 32 (i 1).val
  let c2_i32 : BitVec 32 := 2#32
  let v1 : BitVec 32 := Scalar.remsi arg1 c2_i32
  let c72_i32_1664 : BitVec 32 := 72#32
  let c0_i32_1665 : BitVec 32 := 0#32
  let c0_i32_1666 : BitVec 32 := 0#32
  ![v1.toNat, 72, 0, 0]
def k0_off76 (i : grid0.Coords) : Fin 4 → Nat :=
  let arg1 : BitVec 32 := BitVec.ofNat 32 (i 1).val
  let c2_i32 : BitVec 32 := 2#32
  let v1 : BitVec 32 := Scalar.remsi arg1 c2_i32
  let c73_i32_1670 : BitVec 32 := 73#32
  let c0_i32_1671 : BitVec 32 := 0#32
  let c0_i32_1672 : BitVec 32 := 0#32
  ![v1.toNat, 73, 0, 0]
def k0_off77 (i : grid0.Coords) : Fin 4 → Nat :=
  let arg1 : BitVec 32 := BitVec.ofNat 32 (i 1).val
  let c2_i32 : BitVec 32 := 2#32
  let v1 : BitVec 32 := Scalar.remsi arg1 c2_i32
  let c74_i32_1676 : BitVec 32 := 74#32
  let c0_i32_1677 : BitVec 32 := 0#32
  let c0_i32_1678 : BitVec 32 := 0#32
  ![v1.toNat, 74, 0, 0]
def k0_off78 (i : grid0.Coords) : Fin 4 → Nat :=
  let arg1 : BitVec 32 := BitVec.ofNat 32 (i 1).val
  let c2_i32 : BitVec 32 := 2#32
  let v1 : BitVec 32 := Scalar.remsi arg1 c2_i32
  let c75_i32_1682 : BitVec 32 := 75#32
  let c0_i32_1683 : BitVec 32 := 0#32
  let c0_i32_1684 : BitVec 32 := 0#32
  ![v1.toNat, 75, 0, 0]
def k0_off79 (i : grid0.Coords) : Fin 4 → Nat :=
  let arg1 : BitVec 32 := BitVec.ofNat 32 (i 1).val
  let c2_i32 : BitVec 32 := 2#32
  let v1 : BitVec 32 := Scalar.remsi arg1 c2_i32
  let c76_i32_1688 : BitVec 32 := 76#32
  let c0_i32_1689 : BitVec 32 := 0#32
  let c0_i32_1690 : BitVec 32 := 0#32
  ![v1.toNat, 76, 0, 0]
def k0_off80 (i : grid0.Coords) : Fin 4 → Nat :=
  let arg1 : BitVec 32 := BitVec.ofNat 32 (i 1).val
  let c2_i32 : BitVec 32 := 2#32
  let v1 : BitVec 32 := Scalar.remsi arg1 c2_i32
  let c77_i32_1694 : BitVec 32 := 77#32
  let c0_i32_1695 : BitVec 32 := 0#32
  let c0_i32_1696 : BitVec 32 := 0#32
  ![v1.toNat, 77, 0, 0]
def k0_off81 (i : grid0.Coords) : Fin 4 → Nat :=
  let arg1 : BitVec 32 := BitVec.ofNat 32 (i 1).val
  let c2_i32 : BitVec 32 := 2#32
  let v1 : BitVec 32 := Scalar.remsi arg1 c2_i32
  let c78_i32_1700 : BitVec 32 := 78#32
  let c0_i32_1701 : BitVec 32 := 0#32
  let c0_i32_1702 : BitVec 32 := 0#32
  ![v1.toNat, 78, 0, 0]
def k0_off82 (i : grid0.Coords) : Fin 4 → Nat :=
  let arg1 : BitVec 32 := BitVec.ofNat 32 (i 1).val
  let c2_i32 : BitVec 32 := 2#32
  let v1 : BitVec 32 := Scalar.remsi arg1 c2_i32
  let c79_i32_1706 : BitVec 32 := 79#32
  let c0_i32_1707 : BitVec 32 := 0#32
  let c0_i32_1708 : BitVec 32 := 0#32
  ![v1.toNat, 79, 0, 0]
def k0_off83 (i : grid0.Coords) : Fin 4 → Nat :=
  let arg1 : BitVec 32 := BitVec.ofNat 32 (i 1).val
  let c2_i32 : BitVec 32 := 2#32
  let v1 : BitVec 32 := Scalar.remsi arg1 c2_i32
  let c80_i32_1712 : BitVec 32 := 80#32
  let c0_i32_1713 : BitVec 32 := 0#32
  let c0_i32_1714 : BitVec 32 := 0#32
  ![v1.toNat, 80, 0, 0]
def k0_off84 (i : grid0.Coords) : Fin 4 → Nat :=
  let arg1 : BitVec 32 := BitVec.ofNat 32 (i 1).val
  let c2_i32 : BitVec 32 := 2#32
  let v1 : BitVec 32 := Scalar.remsi arg1 c2_i32
  let c81_i32_1718 : BitVec 32 := 81#32
  let c0_i32_1719 : BitVec 32 := 0#32
  let c0_i32_1720 : BitVec 32 := 0#32
  ![v1.toNat, 81, 0, 0]
def k0_off85 (i : grid0.Coords) : Fin 4 → Nat :=
  let arg1 : BitVec 32 := BitVec.ofNat 32 (i 1).val
  let c2_i32 : BitVec 32 := 2#32
  let v1 : BitVec 32 := Scalar.remsi arg1 c2_i32
  let c82_i32_1724 : BitVec 32 := 82#32
  let c0_i32_1725 : BitVec 32 := 0#32
  let c0_i32_1726 : BitVec 32 := 0#32
  ![v1.toNat, 82, 0, 0]
def k0_off86 (i : grid0.Coords) : Fin 4 → Nat :=
  let arg1 : BitVec 32 := BitVec.ofNat 32 (i 1).val
  let c2_i32 : BitVec 32 := 2#32
  let v1 : BitVec 32 := Scalar.remsi arg1 c2_i32
  let c83_i32_1730 : BitVec 32 := 83#32
  let c0_i32_1731 : BitVec 32 := 0#32
  let c0_i32_1732 : BitVec 32 := 0#32
  ![v1.toNat, 83, 0, 0]
def k0_off87 (i : grid0.Coords) : Fin 4 → Nat :=
  let arg1 : BitVec 32 := BitVec.ofNat 32 (i 1).val
  let c2_i32 : BitVec 32 := 2#32
  let v1 : BitVec 32 := Scalar.remsi arg1 c2_i32
  let c84_i32_1736 : BitVec 32 := 84#32
  let c0_i32_1737 : BitVec 32 := 0#32
  let c0_i32_1738 : BitVec 32 := 0#32
  ![v1.toNat, 84, 0, 0]
def k0_off88 (i : grid0.Coords) : Fin 4 → Nat :=
  let arg1 : BitVec 32 := BitVec.ofNat 32 (i 1).val
  let c2_i32 : BitVec 32 := 2#32
  let v1 : BitVec 32 := Scalar.remsi arg1 c2_i32
  let c85_i32_1742 : BitVec 32 := 85#32
  let c0_i32_1743 : BitVec 32 := 0#32
  let c0_i32_1744 : BitVec 32 := 0#32
  ![v1.toNat, 85, 0, 0]
def k0_off89 (i : grid0.Coords) : Fin 4 → Nat :=
  let arg1 : BitVec 32 := BitVec.ofNat 32 (i 1).val
  let c2_i32 : BitVec 32 := 2#32
  let v1 : BitVec 32 := Scalar.remsi arg1 c2_i32
  let c86_i32_1748 : BitVec 32 := 86#32
  let c0_i32_1749 : BitVec 32 := 0#32
  let c0_i32_1750 : BitVec 32 := 0#32
  ![v1.toNat, 86, 0, 0]
def k0_off90 (i : grid0.Coords) : Fin 4 → Nat :=
  let arg1 : BitVec 32 := BitVec.ofNat 32 (i 1).val
  let c2_i32 : BitVec 32 := 2#32
  let v1 : BitVec 32 := Scalar.remsi arg1 c2_i32
  let c87_i32_1754 : BitVec 32 := 87#32
  let c0_i32_1755 : BitVec 32 := 0#32
  let c0_i32_1756 : BitVec 32 := 0#32
  ![v1.toNat, 87, 0, 0]
def k0_off91 (i : grid0.Coords) : Fin 4 → Nat :=
  let arg1 : BitVec 32 := BitVec.ofNat 32 (i 1).val
  let c2_i32 : BitVec 32 := 2#32
  let v1 : BitVec 32 := Scalar.remsi arg1 c2_i32
  let c88_i32_1760 : BitVec 32 := 88#32
  let c0_i32_1761 : BitVec 32 := 0#32
  let c0_i32_1762 : BitVec 32 := 0#32
  ![v1.toNat, 88, 0, 0]
def k0_off92 (i : grid0.Coords) : Fin 4 → Nat :=
  let arg1 : BitVec 32 := BitVec.ofNat 32 (i 1).val
  let c2_i32 : BitVec 32 := 2#32
  let v1 : BitVec 32 := Scalar.remsi arg1 c2_i32
  let c89_i32_1766 : BitVec 32 := 89#32
  let c0_i32_1767 : BitVec 32 := 0#32
  let c0_i32_1768 : BitVec 32 := 0#32
  ![v1.toNat, 89, 0, 0]
def k0_off93 (i : grid0.Coords) : Fin 4 → Nat :=
  let arg1 : BitVec 32 := BitVec.ofNat 32 (i 1).val
  let c2_i32 : BitVec 32 := 2#32
  let v1 : BitVec 32 := Scalar.remsi arg1 c2_i32
  let c90_i32_1772 : BitVec 32 := 90#32
  let c0_i32_1773 : BitVec 32 := 0#32
  let c0_i32_1774 : BitVec 32 := 0#32
  ![v1.toNat, 90, 0, 0]
def k0_off94 (i : grid0.Coords) : Fin 4 → Nat :=
  let arg1 : BitVec 32 := BitVec.ofNat 32 (i 1).val
  let c2_i32 : BitVec 32 := 2#32
  let v1 : BitVec 32 := Scalar.remsi arg1 c2_i32
  let c91_i32_1778 : BitVec 32 := 91#32
  let c0_i32_1779 : BitVec 32 := 0#32
  let c0_i32_1780 : BitVec 32 := 0#32
  ![v1.toNat, 91, 0, 0]
def k0_off95 (i : grid0.Coords) : Fin 4 → Nat :=
  let arg1 : BitVec 32 := BitVec.ofNat 32 (i 1).val
  let c2_i32 : BitVec 32 := 2#32
  let v1 : BitVec 32 := Scalar.remsi arg1 c2_i32
  let c92_i32_1784 : BitVec 32 := 92#32
  let c0_i32_1785 : BitVec 32 := 0#32
  let c0_i32_1786 : BitVec 32 := 0#32
  ![v1.toNat, 92, 0, 0]
def k0_off96 (i : grid0.Coords) : Fin 4 → Nat :=
  let arg1 : BitVec 32 := BitVec.ofNat 32 (i 1).val
  let c2_i32 : BitVec 32 := 2#32
  let v1 : BitVec 32 := Scalar.remsi arg1 c2_i32
  let c93_i32_1790 : BitVec 32 := 93#32
  let c0_i32_1791 : BitVec 32 := 0#32
  let c0_i32_1792 : BitVec 32 := 0#32
  ![v1.toNat, 93, 0, 0]
def k0_off97 (i : grid0.Coords) : Fin 4 → Nat :=
  let arg1 : BitVec 32 := BitVec.ofNat 32 (i 1).val
  let c2_i32 : BitVec 32 := 2#32
  let v1 : BitVec 32 := Scalar.remsi arg1 c2_i32
  let c94_i32_1796 : BitVec 32 := 94#32
  let c0_i32_1797 : BitVec 32 := 0#32
  let c0_i32_1798 : BitVec 32 := 0#32
  ![v1.toNat, 94, 0, 0]
def k0_off98 (i : grid0.Coords) : Fin 4 → Nat :=
  let arg1 : BitVec 32 := BitVec.ofNat 32 (i 1).val
  let c2_i32 : BitVec 32 := 2#32
  let v1 : BitVec 32 := Scalar.remsi arg1 c2_i32
  let c95_i32_1802 : BitVec 32 := 95#32
  let c0_i32_1803 : BitVec 32 := 0#32
  let c0_i32_1804 : BitVec 32 := 0#32
  ![v1.toNat, 95, 0, 0]
def k0_off99 (i : grid0.Coords) : Fin 4 → Nat :=
  let arg1 : BitVec 32 := BitVec.ofNat 32 (i 1).val
  let c2_i32 : BitVec 32 := 2#32
  let v1 : BitVec 32 := Scalar.remsi arg1 c2_i32
  let c96_i32_1808 : BitVec 32 := 96#32
  let c0_i32_1809 : BitVec 32 := 0#32
  let c0_i32_1810 : BitVec 32 := 0#32
  ![v1.toNat, 96, 0, 0]
def k0_off100 (i : grid0.Coords) : Fin 4 → Nat :=
  let arg1 : BitVec 32 := BitVec.ofNat 32 (i 1).val
  let c2_i32 : BitVec 32 := 2#32
  let v1 : BitVec 32 := Scalar.remsi arg1 c2_i32
  let c97_i32_1814 : BitVec 32 := 97#32
  let c0_i32_1815 : BitVec 32 := 0#32
  let c0_i32_1816 : BitVec 32 := 0#32
  ![v1.toNat, 97, 0, 0]
def k0_off101 (i : grid0.Coords) : Fin 4 → Nat :=
  let arg1 : BitVec 32 := BitVec.ofNat 32 (i 1).val
  let c2_i32 : BitVec 32 := 2#32
  let v1 : BitVec 32 := Scalar.remsi arg1 c2_i32
  let c98_i32_1820 : BitVec 32 := 98#32
  let c0_i32_1821 : BitVec 32 := 0#32
  let c0_i32_1822 : BitVec 32 := 0#32
  ![v1.toNat, 98, 0, 0]
def k0_off102 (i : grid0.Coords) : Fin 4 → Nat :=
  let arg1 : BitVec 32 := BitVec.ofNat 32 (i 1).val
  let c2_i32 : BitVec 32 := 2#32
  let v1 : BitVec 32 := Scalar.remsi arg1 c2_i32
  let c99_i32_1826 : BitVec 32 := 99#32
  let c0_i32_1827 : BitVec 32 := 0#32
  let c0_i32_1828 : BitVec 32 := 0#32
  ![v1.toNat, 99, 0, 0]
def k0_cond2 (i : grid0.Coords) : BitVec 1 :=
  let arg1 : BitVec 32 := BitVec.ofNat 32 (i 1).val
  let c9_i32 : BitVec 32 := 9#32
  let v5 : BitVec 1 := Scalar.cmpi .slt arg1 c9_i32
  let v6 : BitVec 32 := Scalar.extui v5
  let c0_i32_1 : BitVec 32 := 0#32
  let v7 : BitVec 1 := Scalar.cmpi .ne v6 c0_i32_1
  v7

def k0_off103 (i : grid0.Coords) : Fin 1 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  ![v2632.toNat]
def k0_off104 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c0_i32_1231 : BitVec 32 := 0#32
  let c0_i32_1232 : BitVec 32 := 0#32
  let c0_i32_1233 : BitVec 32 := 0#32
  ![v2632.toNat, 0, 0, 0]
def k0_off105 (i : grid0.Coords) (c0_i32_1230 : BitVec 32) : Fin 3 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c1_i32_1227 : BitVec 32 := 1#32
  let v2631 : BitVec 32 := Scalar.addi arg1 c1_i32_1227
  let c100_i32_1229 : BitVec 32 := 100#32
  let v2633 : BitVec 32 := Scalar.muli v2631 c100_i32_1229
  let v2634 : BitVec 32 := Scalar.addi v2633 c0_i32_1230
  let c0_i32_1234 : BitVec 32 := 0#32
  ![v0.toNat, v2634.toNat, 0]
def k0_off106 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c1_i32_1237 : BitVec 32 := 1#32
  let c0_i32_1238 : BitVec 32 := 0#32
  let c0_i32_1239 : BitVec 32 := 0#32
  ![v2632.toNat, 1, 0, 0]
def k0_off107 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c2_i32_1243 : BitVec 32 := 2#32
  let c0_i32_1244 : BitVec 32 := 0#32
  let c0_i32_1245 : BitVec 32 := 0#32
  ![v2632.toNat, 2, 0, 0]
def k0_off108 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c3_i32_1249 : BitVec 32 := 3#32
  let c0_i32_1250 : BitVec 32 := 0#32
  let c0_i32_1251 : BitVec 32 := 0#32
  ![v2632.toNat, 3, 0, 0]
def k0_off109 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c4_i32_1255 : BitVec 32 := 4#32
  let c0_i32_1256 : BitVec 32 := 0#32
  let c0_i32_1257 : BitVec 32 := 0#32
  ![v2632.toNat, 4, 0, 0]
def k0_off110 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c5_i32_1261 : BitVec 32 := 5#32
  let c0_i32_1262 : BitVec 32 := 0#32
  let c0_i32_1263 : BitVec 32 := 0#32
  ![v2632.toNat, 5, 0, 0]
def k0_off111 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c6_i32_1267 : BitVec 32 := 6#32
  let c0_i32_1268 : BitVec 32 := 0#32
  let c0_i32_1269 : BitVec 32 := 0#32
  ![v2632.toNat, 6, 0, 0]
def k0_off112 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c7_i32_1273 : BitVec 32 := 7#32
  let c0_i32_1274 : BitVec 32 := 0#32
  let c0_i32_1275 : BitVec 32 := 0#32
  ![v2632.toNat, 7, 0, 0]
def k0_off113 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c8_i32_1279 : BitVec 32 := 8#32
  let c0_i32_1280 : BitVec 32 := 0#32
  let c0_i32_1281 : BitVec 32 := 0#32
  ![v2632.toNat, 8, 0, 0]
def k0_off114 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c9_i32_1285 : BitVec 32 := 9#32
  let c0_i32_1286 : BitVec 32 := 0#32
  let c0_i32_1287 : BitVec 32 := 0#32
  ![v2632.toNat, 9, 0, 0]
def k0_off115 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c10_i32_1291 : BitVec 32 := 10#32
  let c0_i32_1292 : BitVec 32 := 0#32
  let c0_i32_1293 : BitVec 32 := 0#32
  ![v2632.toNat, 10, 0, 0]
def k0_off116 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c11_i32_1297 : BitVec 32 := 11#32
  let c0_i32_1298 : BitVec 32 := 0#32
  let c0_i32_1299 : BitVec 32 := 0#32
  ![v2632.toNat, 11, 0, 0]
def k0_off117 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c12_i32_1303 : BitVec 32 := 12#32
  let c0_i32_1304 : BitVec 32 := 0#32
  let c0_i32_1305 : BitVec 32 := 0#32
  ![v2632.toNat, 12, 0, 0]
def k0_off118 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c13_i32_1309 : BitVec 32 := 13#32
  let c0_i32_1310 : BitVec 32 := 0#32
  let c0_i32_1311 : BitVec 32 := 0#32
  ![v2632.toNat, 13, 0, 0]
def k0_off119 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c14_i32_1315 : BitVec 32 := 14#32
  let c0_i32_1316 : BitVec 32 := 0#32
  let c0_i32_1317 : BitVec 32 := 0#32
  ![v2632.toNat, 14, 0, 0]
def k0_off120 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c15_i32_1321 : BitVec 32 := 15#32
  let c0_i32_1322 : BitVec 32 := 0#32
  let c0_i32_1323 : BitVec 32 := 0#32
  ![v2632.toNat, 15, 0, 0]
def k0_off121 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c16_i32_1327 : BitVec 32 := 16#32
  let c0_i32_1328 : BitVec 32 := 0#32
  let c0_i32_1329 : BitVec 32 := 0#32
  ![v2632.toNat, 16, 0, 0]
def k0_off122 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c17_i32_1333 : BitVec 32 := 17#32
  let c0_i32_1334 : BitVec 32 := 0#32
  let c0_i32_1335 : BitVec 32 := 0#32
  ![v2632.toNat, 17, 0, 0]
def k0_off123 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c18_i32_1339 : BitVec 32 := 18#32
  let c0_i32_1340 : BitVec 32 := 0#32
  let c0_i32_1341 : BitVec 32 := 0#32
  ![v2632.toNat, 18, 0, 0]
def k0_off124 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c19_i32_1345 : BitVec 32 := 19#32
  let c0_i32_1346 : BitVec 32 := 0#32
  let c0_i32_1347 : BitVec 32 := 0#32
  ![v2632.toNat, 19, 0, 0]
def k0_off125 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c20_i32_1351 : BitVec 32 := 20#32
  let c0_i32_1352 : BitVec 32 := 0#32
  let c0_i32_1353 : BitVec 32 := 0#32
  ![v2632.toNat, 20, 0, 0]
def k0_off126 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c21_i32_1357 : BitVec 32 := 21#32
  let c0_i32_1358 : BitVec 32 := 0#32
  let c0_i32_1359 : BitVec 32 := 0#32
  ![v2632.toNat, 21, 0, 0]
def k0_off127 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c22_i32_1363 : BitVec 32 := 22#32
  let c0_i32_1364 : BitVec 32 := 0#32
  let c0_i32_1365 : BitVec 32 := 0#32
  ![v2632.toNat, 22, 0, 0]
def k0_off128 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c23_i32_1369 : BitVec 32 := 23#32
  let c0_i32_1370 : BitVec 32 := 0#32
  let c0_i32_1371 : BitVec 32 := 0#32
  ![v2632.toNat, 23, 0, 0]
def k0_off129 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c24_i32_1375 : BitVec 32 := 24#32
  let c0_i32_1376 : BitVec 32 := 0#32
  let c0_i32_1377 : BitVec 32 := 0#32
  ![v2632.toNat, 24, 0, 0]
def k0_off130 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c25_i32_1381 : BitVec 32 := 25#32
  let c0_i32_1382 : BitVec 32 := 0#32
  let c0_i32_1383 : BitVec 32 := 0#32
  ![v2632.toNat, 25, 0, 0]
def k0_off131 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c26_i32_1387 : BitVec 32 := 26#32
  let c0_i32_1388 : BitVec 32 := 0#32
  let c0_i32_1389 : BitVec 32 := 0#32
  ![v2632.toNat, 26, 0, 0]
def k0_off132 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c27_i32_1393 : BitVec 32 := 27#32
  let c0_i32_1394 : BitVec 32 := 0#32
  let c0_i32_1395 : BitVec 32 := 0#32
  ![v2632.toNat, 27, 0, 0]
def k0_off133 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c28_i32_1399 : BitVec 32 := 28#32
  let c0_i32_1400 : BitVec 32 := 0#32
  let c0_i32_1401 : BitVec 32 := 0#32
  ![v2632.toNat, 28, 0, 0]
def k0_off134 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c29_i32_1405 : BitVec 32 := 29#32
  let c0_i32_1406 : BitVec 32 := 0#32
  let c0_i32_1407 : BitVec 32 := 0#32
  ![v2632.toNat, 29, 0, 0]
def k0_off135 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c30_i32_1411 : BitVec 32 := 30#32
  let c0_i32_1412 : BitVec 32 := 0#32
  let c0_i32_1413 : BitVec 32 := 0#32
  ![v2632.toNat, 30, 0, 0]
def k0_off136 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c31_i32_1417 : BitVec 32 := 31#32
  let c0_i32_1418 : BitVec 32 := 0#32
  let c0_i32_1419 : BitVec 32 := 0#32
  ![v2632.toNat, 31, 0, 0]
def k0_off137 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c32_i32_1423 : BitVec 32 := 32#32
  let c0_i32_1424 : BitVec 32 := 0#32
  let c0_i32_1425 : BitVec 32 := 0#32
  ![v2632.toNat, 32, 0, 0]
def k0_off138 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c33_i32_1429 : BitVec 32 := 33#32
  let c0_i32_1430 : BitVec 32 := 0#32
  let c0_i32_1431 : BitVec 32 := 0#32
  ![v2632.toNat, 33, 0, 0]
def k0_off139 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c34_i32_1435 : BitVec 32 := 34#32
  let c0_i32_1436 : BitVec 32 := 0#32
  let c0_i32_1437 : BitVec 32 := 0#32
  ![v2632.toNat, 34, 0, 0]
def k0_off140 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c35_i32_1441 : BitVec 32 := 35#32
  let c0_i32_1442 : BitVec 32 := 0#32
  let c0_i32_1443 : BitVec 32 := 0#32
  ![v2632.toNat, 35, 0, 0]
def k0_off141 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c36_i32_1447 : BitVec 32 := 36#32
  let c0_i32_1448 : BitVec 32 := 0#32
  let c0_i32_1449 : BitVec 32 := 0#32
  ![v2632.toNat, 36, 0, 0]
def k0_off142 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c37_i32_1453 : BitVec 32 := 37#32
  let c0_i32_1454 : BitVec 32 := 0#32
  let c0_i32_1455 : BitVec 32 := 0#32
  ![v2632.toNat, 37, 0, 0]
def k0_off143 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c38_i32_1459 : BitVec 32 := 38#32
  let c0_i32_1460 : BitVec 32 := 0#32
  let c0_i32_1461 : BitVec 32 := 0#32
  ![v2632.toNat, 38, 0, 0]
def k0_off144 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c39_i32_1465 : BitVec 32 := 39#32
  let c0_i32_1466 : BitVec 32 := 0#32
  let c0_i32_1467 : BitVec 32 := 0#32
  ![v2632.toNat, 39, 0, 0]
def k0_off145 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c40_i32_1471 : BitVec 32 := 40#32
  let c0_i32_1472 : BitVec 32 := 0#32
  let c0_i32_1473 : BitVec 32 := 0#32
  ![v2632.toNat, 40, 0, 0]
def k0_off146 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c41_i32_1477 : BitVec 32 := 41#32
  let c0_i32_1478 : BitVec 32 := 0#32
  let c0_i32_1479 : BitVec 32 := 0#32
  ![v2632.toNat, 41, 0, 0]
def k0_off147 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c42_i32_1483 : BitVec 32 := 42#32
  let c0_i32_1484 : BitVec 32 := 0#32
  let c0_i32_1485 : BitVec 32 := 0#32
  ![v2632.toNat, 42, 0, 0]
def k0_off148 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c43_i32_1489 : BitVec 32 := 43#32
  let c0_i32_1490 : BitVec 32 := 0#32
  let c0_i32_1491 : BitVec 32 := 0#32
  ![v2632.toNat, 43, 0, 0]
def k0_off149 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c44_i32_1495 : BitVec 32 := 44#32
  let c0_i32_1496 : BitVec 32 := 0#32
  let c0_i32_1497 : BitVec 32 := 0#32
  ![v2632.toNat, 44, 0, 0]
def k0_off150 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c45_i32_1501 : BitVec 32 := 45#32
  let c0_i32_1502 : BitVec 32 := 0#32
  let c0_i32_1503 : BitVec 32 := 0#32
  ![v2632.toNat, 45, 0, 0]
def k0_off151 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c46_i32_1507 : BitVec 32 := 46#32
  let c0_i32_1508 : BitVec 32 := 0#32
  let c0_i32_1509 : BitVec 32 := 0#32
  ![v2632.toNat, 46, 0, 0]
def k0_off152 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c47_i32_1513 : BitVec 32 := 47#32
  let c0_i32_1514 : BitVec 32 := 0#32
  let c0_i32_1515 : BitVec 32 := 0#32
  ![v2632.toNat, 47, 0, 0]
def k0_off153 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c48_i32_1519 : BitVec 32 := 48#32
  let c0_i32_1520 : BitVec 32 := 0#32
  let c0_i32_1521 : BitVec 32 := 0#32
  ![v2632.toNat, 48, 0, 0]
def k0_off154 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c49_i32_1525 : BitVec 32 := 49#32
  let c0_i32_1526 : BitVec 32 := 0#32
  let c0_i32_1527 : BitVec 32 := 0#32
  ![v2632.toNat, 49, 0, 0]
def k0_off155 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c50_i32_1531 : BitVec 32 := 50#32
  let c0_i32_1532 : BitVec 32 := 0#32
  let c0_i32_1533 : BitVec 32 := 0#32
  ![v2632.toNat, 50, 0, 0]
def k0_off156 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c51_i32_1537 : BitVec 32 := 51#32
  let c0_i32_1538 : BitVec 32 := 0#32
  let c0_i32_1539 : BitVec 32 := 0#32
  ![v2632.toNat, 51, 0, 0]
def k0_off157 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c52_i32_1543 : BitVec 32 := 52#32
  let c0_i32_1544 : BitVec 32 := 0#32
  let c0_i32_1545 : BitVec 32 := 0#32
  ![v2632.toNat, 52, 0, 0]
def k0_off158 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c53_i32_1549 : BitVec 32 := 53#32
  let c0_i32_1550 : BitVec 32 := 0#32
  let c0_i32_1551 : BitVec 32 := 0#32
  ![v2632.toNat, 53, 0, 0]
def k0_off159 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c54_i32_1555 : BitVec 32 := 54#32
  let c0_i32_1556 : BitVec 32 := 0#32
  let c0_i32_1557 : BitVec 32 := 0#32
  ![v2632.toNat, 54, 0, 0]
def k0_off160 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c55_i32_1561 : BitVec 32 := 55#32
  let c0_i32_1562 : BitVec 32 := 0#32
  let c0_i32_1563 : BitVec 32 := 0#32
  ![v2632.toNat, 55, 0, 0]
def k0_off161 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c56_i32_1567 : BitVec 32 := 56#32
  let c0_i32_1568 : BitVec 32 := 0#32
  let c0_i32_1569 : BitVec 32 := 0#32
  ![v2632.toNat, 56, 0, 0]
def k0_off162 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c57_i32_1573 : BitVec 32 := 57#32
  let c0_i32_1574 : BitVec 32 := 0#32
  let c0_i32_1575 : BitVec 32 := 0#32
  ![v2632.toNat, 57, 0, 0]
def k0_off163 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c58_i32_1579 : BitVec 32 := 58#32
  let c0_i32_1580 : BitVec 32 := 0#32
  let c0_i32_1581 : BitVec 32 := 0#32
  ![v2632.toNat, 58, 0, 0]
def k0_off164 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c59_i32_1585 : BitVec 32 := 59#32
  let c0_i32_1586 : BitVec 32 := 0#32
  let c0_i32_1587 : BitVec 32 := 0#32
  ![v2632.toNat, 59, 0, 0]
def k0_off165 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c60_i32_1591 : BitVec 32 := 60#32
  let c0_i32_1592 : BitVec 32 := 0#32
  let c0_i32_1593 : BitVec 32 := 0#32
  ![v2632.toNat, 60, 0, 0]
def k0_off166 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c61_i32_1597 : BitVec 32 := 61#32
  let c0_i32_1598 : BitVec 32 := 0#32
  let c0_i32_1599 : BitVec 32 := 0#32
  ![v2632.toNat, 61, 0, 0]
def k0_off167 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c62_i32_1603 : BitVec 32 := 62#32
  let c0_i32_1604 : BitVec 32 := 0#32
  let c0_i32_1605 : BitVec 32 := 0#32
  ![v2632.toNat, 62, 0, 0]
def k0_off168 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c63_i32_1609 : BitVec 32 := 63#32
  let c0_i32_1610 : BitVec 32 := 0#32
  let c0_i32_1611 : BitVec 32 := 0#32
  ![v2632.toNat, 63, 0, 0]
def k0_off169 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c64_i32_1615 : BitVec 32 := 64#32
  let c0_i32_1616 : BitVec 32 := 0#32
  let c0_i32_1617 : BitVec 32 := 0#32
  ![v2632.toNat, 64, 0, 0]
def k0_off170 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c65_i32_1621 : BitVec 32 := 65#32
  let c0_i32_1622 : BitVec 32 := 0#32
  let c0_i32_1623 : BitVec 32 := 0#32
  ![v2632.toNat, 65, 0, 0]
def k0_off171 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c66_i32_1627 : BitVec 32 := 66#32
  let c0_i32_1628 : BitVec 32 := 0#32
  let c0_i32_1629 : BitVec 32 := 0#32
  ![v2632.toNat, 66, 0, 0]
def k0_off172 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c67_i32_1633 : BitVec 32 := 67#32
  let c0_i32_1634 : BitVec 32 := 0#32
  let c0_i32_1635 : BitVec 32 := 0#32
  ![v2632.toNat, 67, 0, 0]
def k0_off173 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c68_i32_1639 : BitVec 32 := 68#32
  let c0_i32_1640 : BitVec 32 := 0#32
  let c0_i32_1641 : BitVec 32 := 0#32
  ![v2632.toNat, 68, 0, 0]
def k0_off174 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c69_i32_1645 : BitVec 32 := 69#32
  let c0_i32_1646 : BitVec 32 := 0#32
  let c0_i32_1647 : BitVec 32 := 0#32
  ![v2632.toNat, 69, 0, 0]
def k0_off175 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c70_i32_1651 : BitVec 32 := 70#32
  let c0_i32_1652 : BitVec 32 := 0#32
  let c0_i32_1653 : BitVec 32 := 0#32
  ![v2632.toNat, 70, 0, 0]
def k0_off176 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c71_i32_1657 : BitVec 32 := 71#32
  let c0_i32_1658 : BitVec 32 := 0#32
  let c0_i32_1659 : BitVec 32 := 0#32
  ![v2632.toNat, 71, 0, 0]
def k0_off177 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c72_i32_1663 : BitVec 32 := 72#32
  let c0_i32_1664 : BitVec 32 := 0#32
  let c0_i32_1665 : BitVec 32 := 0#32
  ![v2632.toNat, 72, 0, 0]
def k0_off178 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c73_i32_1669 : BitVec 32 := 73#32
  let c0_i32_1670 : BitVec 32 := 0#32
  let c0_i32_1671 : BitVec 32 := 0#32
  ![v2632.toNat, 73, 0, 0]
def k0_off179 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c74_i32_1675 : BitVec 32 := 74#32
  let c0_i32_1676 : BitVec 32 := 0#32
  let c0_i32_1677 : BitVec 32 := 0#32
  ![v2632.toNat, 74, 0, 0]
def k0_off180 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c75_i32_1681 : BitVec 32 := 75#32
  let c0_i32_1682 : BitVec 32 := 0#32
  let c0_i32_1683 : BitVec 32 := 0#32
  ![v2632.toNat, 75, 0, 0]
def k0_off181 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c76_i32_1687 : BitVec 32 := 76#32
  let c0_i32_1688 : BitVec 32 := 0#32
  let c0_i32_1689 : BitVec 32 := 0#32
  ![v2632.toNat, 76, 0, 0]
def k0_off182 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c77_i32_1693 : BitVec 32 := 77#32
  let c0_i32_1694 : BitVec 32 := 0#32
  let c0_i32_1695 : BitVec 32 := 0#32
  ![v2632.toNat, 77, 0, 0]
def k0_off183 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c78_i32_1699 : BitVec 32 := 78#32
  let c0_i32_1700 : BitVec 32 := 0#32
  let c0_i32_1701 : BitVec 32 := 0#32
  ![v2632.toNat, 78, 0, 0]
def k0_off184 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c79_i32_1705 : BitVec 32 := 79#32
  let c0_i32_1706 : BitVec 32 := 0#32
  let c0_i32_1707 : BitVec 32 := 0#32
  ![v2632.toNat, 79, 0, 0]
def k0_off185 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c80_i32_1711 : BitVec 32 := 80#32
  let c0_i32_1712 : BitVec 32 := 0#32
  let c0_i32_1713 : BitVec 32 := 0#32
  ![v2632.toNat, 80, 0, 0]
def k0_off186 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c81_i32_1717 : BitVec 32 := 81#32
  let c0_i32_1718 : BitVec 32 := 0#32
  let c0_i32_1719 : BitVec 32 := 0#32
  ![v2632.toNat, 81, 0, 0]
def k0_off187 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c82_i32_1723 : BitVec 32 := 82#32
  let c0_i32_1724 : BitVec 32 := 0#32
  let c0_i32_1725 : BitVec 32 := 0#32
  ![v2632.toNat, 82, 0, 0]
def k0_off188 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c83_i32_1729 : BitVec 32 := 83#32
  let c0_i32_1730 : BitVec 32 := 0#32
  let c0_i32_1731 : BitVec 32 := 0#32
  ![v2632.toNat, 83, 0, 0]
def k0_off189 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c84_i32_1735 : BitVec 32 := 84#32
  let c0_i32_1736 : BitVec 32 := 0#32
  let c0_i32_1737 : BitVec 32 := 0#32
  ![v2632.toNat, 84, 0, 0]
def k0_off190 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c85_i32_1741 : BitVec 32 := 85#32
  let c0_i32_1742 : BitVec 32 := 0#32
  let c0_i32_1743 : BitVec 32 := 0#32
  ![v2632.toNat, 85, 0, 0]
def k0_off191 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c86_i32_1747 : BitVec 32 := 86#32
  let c0_i32_1748 : BitVec 32 := 0#32
  let c0_i32_1749 : BitVec 32 := 0#32
  ![v2632.toNat, 86, 0, 0]
def k0_off192 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c87_i32_1753 : BitVec 32 := 87#32
  let c0_i32_1754 : BitVec 32 := 0#32
  let c0_i32_1755 : BitVec 32 := 0#32
  ![v2632.toNat, 87, 0, 0]
def k0_off193 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c88_i32_1759 : BitVec 32 := 88#32
  let c0_i32_1760 : BitVec 32 := 0#32
  let c0_i32_1761 : BitVec 32 := 0#32
  ![v2632.toNat, 88, 0, 0]
def k0_off194 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c89_i32_1765 : BitVec 32 := 89#32
  let c0_i32_1766 : BitVec 32 := 0#32
  let c0_i32_1767 : BitVec 32 := 0#32
  ![v2632.toNat, 89, 0, 0]
def k0_off195 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c90_i32_1771 : BitVec 32 := 90#32
  let c0_i32_1772 : BitVec 32 := 0#32
  let c0_i32_1773 : BitVec 32 := 0#32
  ![v2632.toNat, 90, 0, 0]
def k0_off196 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c91_i32_1777 : BitVec 32 := 91#32
  let c0_i32_1778 : BitVec 32 := 0#32
  let c0_i32_1779 : BitVec 32 := 0#32
  ![v2632.toNat, 91, 0, 0]
def k0_off197 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c92_i32_1783 : BitVec 32 := 92#32
  let c0_i32_1784 : BitVec 32 := 0#32
  let c0_i32_1785 : BitVec 32 := 0#32
  ![v2632.toNat, 92, 0, 0]
def k0_off198 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c93_i32_1789 : BitVec 32 := 93#32
  let c0_i32_1790 : BitVec 32 := 0#32
  let c0_i32_1791 : BitVec 32 := 0#32
  ![v2632.toNat, 93, 0, 0]
def k0_off199 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c94_i32_1795 : BitVec 32 := 94#32
  let c0_i32_1796 : BitVec 32 := 0#32
  let c0_i32_1797 : BitVec 32 := 0#32
  ![v2632.toNat, 94, 0, 0]
def k0_off200 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c95_i32_1801 : BitVec 32 := 95#32
  let c0_i32_1802 : BitVec 32 := 0#32
  let c0_i32_1803 : BitVec 32 := 0#32
  ![v2632.toNat, 95, 0, 0]
def k0_off201 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c96_i32_1807 : BitVec 32 := 96#32
  let c0_i32_1808 : BitVec 32 := 0#32
  let c0_i32_1809 : BitVec 32 := 0#32
  ![v2632.toNat, 96, 0, 0]
def k0_off202 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c97_i32_1813 : BitVec 32 := 97#32
  let c0_i32_1814 : BitVec 32 := 0#32
  let c0_i32_1815 : BitVec 32 := 0#32
  ![v2632.toNat, 97, 0, 0]
def k0_off203 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c98_i32_1819 : BitVec 32 := 98#32
  let c0_i32_1820 : BitVec 32 := 0#32
  let c0_i32_1821 : BitVec 32 := 0#32
  ![v2632.toNat, 98, 0, 0]
def k0_off204 (i : grid0.Coords) : Fin 4 → Nat :=
  let c1_i32_1228 : BitVec 32 := 1#32
  let arg1 : BitVec 32 := BitVec.ofNat 32 (i 1).val
  let c2_i32 : BitVec 32 := 2#32
  let v1 : BitVec 32 := Scalar.remsi arg1 c2_i32
  let v2632 : BitVec 32 := Scalar.subi c1_i32_1228 v1
  let c99_i32_1825 : BitVec 32 := 99#32
  let c0_i32_1826 : BitVec 32 := 0#32
  let c0_i32_1827 : BitVec 32 := 0#32
  ![v2632.toNat, 99, 0, 0]
def k0_off205 (i : grid0.Coords) : Fin 1 → Nat :=
  let arg1 : BitVec 32 := BitVec.ofNat 32 (i 1).val
  let c2_i32 : BitVec 32 := 2#32
  let v1 : BitVec 32 := Scalar.remsi arg1 c2_i32
  ![v1.toNat]
def k0_off206 (i : grid0.Coords) : Fin 4 → Nat :=
  let arg1 : BitVec 32 := BitVec.ofNat 32 (i 1).val
  let c2_i32 : BitVec 32 := 2#32
  let v1 : BitVec 32 := Scalar.remsi arg1 c2_i32
  let c0_i32_3 : BitVec 32 := 0#32
  let c0_i32_4 : BitVec 32 := 0#32
  let c0_i32_5 : BitVec 32 := 0#32
  ![v1.toNat, 0, 0, 0]
def k0_off207 (i : grid0.Coords) (c0_i32_2 : BitVec 32) : Fin 3 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c100_i32 : BitVec 32 := 100#32
  let v8 : BitVec 32 := Scalar.muli arg1 c100_i32
  let v9 : BitVec 32 := Scalar.addi v8 c0_i32_2
  let c0_i32_6 : BitVec 32 := 0#32
  ![v0.toNat, v9.toNat, 0]
def k0_off208 (i : grid0.Coords) : Fin 4 → Nat :=
  let arg1 : BitVec 32 := BitVec.ofNat 32 (i 1).val
  let c2_i32 : BitVec 32 := 2#32
  let v1 : BitVec 32 := Scalar.remsi arg1 c2_i32
  let c1_i32_8 : BitVec 32 := 1#32
  let c0_i32_9 : BitVec 32 := 0#32
  let c0_i32_10 : BitVec 32 := 0#32
  ![v1.toNat, 1, 0, 0]
def k0_off209 (i : grid0.Coords) : Fin 4 → Nat :=
  let arg1 : BitVec 32 := BitVec.ofNat 32 (i 1).val
  let c2_i32 : BitVec 32 := 2#32
  let v1 : BitVec 32 := Scalar.remsi arg1 c2_i32
  let c2_i32_14 : BitVec 32 := 2#32
  let c0_i32_15 : BitVec 32 := 0#32
  let c0_i32_16 : BitVec 32 := 0#32
  ![v1.toNat, 2, 0, 0]
def k0_off210 (i : grid0.Coords) : Fin 4 → Nat :=
  let arg1 : BitVec 32 := BitVec.ofNat 32 (i 1).val
  let c2_i32 : BitVec 32 := 2#32
  let v1 : BitVec 32 := Scalar.remsi arg1 c2_i32
  let c3_i32_19 : BitVec 32 := 3#32
  let c0_i32_20 : BitVec 32 := 0#32
  let c0_i32_21 : BitVec 32 := 0#32
  ![v1.toNat, 3, 0, 0]
def k0_off211 (i : grid0.Coords) : Fin 4 → Nat :=
  let arg1 : BitVec 32 := BitVec.ofNat 32 (i 1).val
  let c2_i32 : BitVec 32 := 2#32
  let v1 : BitVec 32 := Scalar.remsi arg1 c2_i32
  let c4_i32_24 : BitVec 32 := 4#32
  let c0_i32_25 : BitVec 32 := 0#32
  let c0_i32_26 : BitVec 32 := 0#32
  ![v1.toNat, 4, 0, 0]
def k0_off212 (i : grid0.Coords) : Fin 4 → Nat :=
  let arg1 : BitVec 32 := BitVec.ofNat 32 (i 1).val
  let c2_i32 : BitVec 32 := 2#32
  let v1 : BitVec 32 := Scalar.remsi arg1 c2_i32
  let c5_i32_29 : BitVec 32 := 5#32
  let c0_i32_30 : BitVec 32 := 0#32
  let c0_i32_31 : BitVec 32 := 0#32
  ![v1.toNat, 5, 0, 0]
def k0_off213 (i : grid0.Coords) : Fin 4 → Nat :=
  let arg1 : BitVec 32 := BitVec.ofNat 32 (i 1).val
  let c2_i32 : BitVec 32 := 2#32
  let v1 : BitVec 32 := Scalar.remsi arg1 c2_i32
  let c6_i32_34 : BitVec 32 := 6#32
  let c0_i32_35 : BitVec 32 := 0#32
  let c0_i32_36 : BitVec 32 := 0#32
  ![v1.toNat, 6, 0, 0]
def k0_off214 (i : grid0.Coords) : Fin 4 → Nat :=
  let arg1 : BitVec 32 := BitVec.ofNat 32 (i 1).val
  let c2_i32 : BitVec 32 := 2#32
  let v1 : BitVec 32 := Scalar.remsi arg1 c2_i32
  let c7_i32_39 : BitVec 32 := 7#32
  let c0_i32_40 : BitVec 32 := 0#32
  let c0_i32_41 : BitVec 32 := 0#32
  ![v1.toNat, 7, 0, 0]
def k0_off215 (i : grid0.Coords) : Fin 4 → Nat :=
  let arg1 : BitVec 32 := BitVec.ofNat 32 (i 1).val
  let c2_i32 : BitVec 32 := 2#32
  let v1 : BitVec 32 := Scalar.remsi arg1 c2_i32
  let c8_i32_44 : BitVec 32 := 8#32
  let c0_i32_45 : BitVec 32 := 0#32
  let c0_i32_46 : BitVec 32 := 0#32
  ![v1.toNat, 8, 0, 0]
def k0_off216 (i : grid0.Coords) : Fin 4 → Nat :=
  let arg1 : BitVec 32 := BitVec.ofNat 32 (i 1).val
  let c2_i32 : BitVec 32 := 2#32
  let v1 : BitVec 32 := Scalar.remsi arg1 c2_i32
  let c9_i32_50 : BitVec 32 := 9#32
  let c0_i32_51 : BitVec 32 := 0#32
  let c0_i32_52 : BitVec 32 := 0#32
  ![v1.toNat, 9, 0, 0]
def k0_off217 (i : grid0.Coords) : Fin 4 → Nat :=
  let arg1 : BitVec 32 := BitVec.ofNat 32 (i 1).val
  let c2_i32 : BitVec 32 := 2#32
  let v1 : BitVec 32 := Scalar.remsi arg1 c2_i32
  let c10_i32_55 : BitVec 32 := 10#32
  let c0_i32_56 : BitVec 32 := 0#32
  let c0_i32_57 : BitVec 32 := 0#32
  ![v1.toNat, 10, 0, 0]
def k0_off218 (i : grid0.Coords) : Fin 4 → Nat :=
  let arg1 : BitVec 32 := BitVec.ofNat 32 (i 1).val
  let c2_i32 : BitVec 32 := 2#32
  let v1 : BitVec 32 := Scalar.remsi arg1 c2_i32
  let c11_i32_60 : BitVec 32 := 11#32
  let c0_i32_61 : BitVec 32 := 0#32
  let c0_i32_62 : BitVec 32 := 0#32
  ![v1.toNat, 11, 0, 0]
def k0_off219 (i : grid0.Coords) : Fin 4 → Nat :=
  let arg1 : BitVec 32 := BitVec.ofNat 32 (i 1).val
  let c2_i32 : BitVec 32 := 2#32
  let v1 : BitVec 32 := Scalar.remsi arg1 c2_i32
  let c12_i32_65 : BitVec 32 := 12#32
  let c0_i32_66 : BitVec 32 := 0#32
  let c0_i32_67 : BitVec 32 := 0#32
  ![v1.toNat, 12, 0, 0]
def k0_off220 (i : grid0.Coords) : Fin 4 → Nat :=
  let arg1 : BitVec 32 := BitVec.ofNat 32 (i 1).val
  let c2_i32 : BitVec 32 := 2#32
  let v1 : BitVec 32 := Scalar.remsi arg1 c2_i32
  let c13_i32_70 : BitVec 32 := 13#32
  let c0_i32_71 : BitVec 32 := 0#32
  let c0_i32_72 : BitVec 32 := 0#32
  ![v1.toNat, 13, 0, 0]
def k0_off221 (i : grid0.Coords) : Fin 4 → Nat :=
  let arg1 : BitVec 32 := BitVec.ofNat 32 (i 1).val
  let c2_i32 : BitVec 32 := 2#32
  let v1 : BitVec 32 := Scalar.remsi arg1 c2_i32
  let c14_i32_75 : BitVec 32 := 14#32
  let c0_i32_76 : BitVec 32 := 0#32
  let c0_i32_77 : BitVec 32 := 0#32
  ![v1.toNat, 14, 0, 0]
def k0_off222 (i : grid0.Coords) : Fin 4 → Nat :=
  let arg1 : BitVec 32 := BitVec.ofNat 32 (i 1).val
  let c2_i32 : BitVec 32 := 2#32
  let v1 : BitVec 32 := Scalar.remsi arg1 c2_i32
  let c15_i32_80 : BitVec 32 := 15#32
  let c0_i32_81 : BitVec 32 := 0#32
  let c0_i32_82 : BitVec 32 := 0#32
  ![v1.toNat, 15, 0, 0]
def k0_off223 (i : grid0.Coords) : Fin 4 → Nat :=
  let arg1 : BitVec 32 := BitVec.ofNat 32 (i 1).val
  let c2_i32 : BitVec 32 := 2#32
  let v1 : BitVec 32 := Scalar.remsi arg1 c2_i32
  let c16_i32_85 : BitVec 32 := 16#32
  let c0_i32_86 : BitVec 32 := 0#32
  let c0_i32_87 : BitVec 32 := 0#32
  ![v1.toNat, 16, 0, 0]
def k0_off224 (i : grid0.Coords) : Fin 4 → Nat :=
  let arg1 : BitVec 32 := BitVec.ofNat 32 (i 1).val
  let c2_i32 : BitVec 32 := 2#32
  let v1 : BitVec 32 := Scalar.remsi arg1 c2_i32
  let c17_i32_90 : BitVec 32 := 17#32
  let c0_i32_91 : BitVec 32 := 0#32
  let c0_i32_92 : BitVec 32 := 0#32
  ![v1.toNat, 17, 0, 0]
def k0_off225 (i : grid0.Coords) : Fin 4 → Nat :=
  let arg1 : BitVec 32 := BitVec.ofNat 32 (i 1).val
  let c2_i32 : BitVec 32 := 2#32
  let v1 : BitVec 32 := Scalar.remsi arg1 c2_i32
  let c18_i32_95 : BitVec 32 := 18#32
  let c0_i32_96 : BitVec 32 := 0#32
  let c0_i32_97 : BitVec 32 := 0#32
  ![v1.toNat, 18, 0, 0]
def k0_off226 (i : grid0.Coords) : Fin 4 → Nat :=
  let arg1 : BitVec 32 := BitVec.ofNat 32 (i 1).val
  let c2_i32 : BitVec 32 := 2#32
  let v1 : BitVec 32 := Scalar.remsi arg1 c2_i32
  let c19_i32_100 : BitVec 32 := 19#32
  let c0_i32_101 : BitVec 32 := 0#32
  let c0_i32_102 : BitVec 32 := 0#32
  ![v1.toNat, 19, 0, 0]
def k0_off227 (i : grid0.Coords) : Fin 4 → Nat :=
  let arg1 : BitVec 32 := BitVec.ofNat 32 (i 1).val
  let c2_i32 : BitVec 32 := 2#32
  let v1 : BitVec 32 := Scalar.remsi arg1 c2_i32
  let c20_i32_105 : BitVec 32 := 20#32
  let c0_i32_106 : BitVec 32 := 0#32
  let c0_i32_107 : BitVec 32 := 0#32
  ![v1.toNat, 20, 0, 0]
def k0_off228 (i : grid0.Coords) : Fin 4 → Nat :=
  let arg1 : BitVec 32 := BitVec.ofNat 32 (i 1).val
  let c2_i32 : BitVec 32 := 2#32
  let v1 : BitVec 32 := Scalar.remsi arg1 c2_i32
  let c21_i32_110 : BitVec 32 := 21#32
  let c0_i32_111 : BitVec 32 := 0#32
  let c0_i32_112 : BitVec 32 := 0#32
  ![v1.toNat, 21, 0, 0]
def k0_off229 (i : grid0.Coords) : Fin 4 → Nat :=
  let arg1 : BitVec 32 := BitVec.ofNat 32 (i 1).val
  let c2_i32 : BitVec 32 := 2#32
  let v1 : BitVec 32 := Scalar.remsi arg1 c2_i32
  let c22_i32_115 : BitVec 32 := 22#32
  let c0_i32_116 : BitVec 32 := 0#32
  let c0_i32_117 : BitVec 32 := 0#32
  ![v1.toNat, 22, 0, 0]
def k0_off230 (i : grid0.Coords) : Fin 4 → Nat :=
  let arg1 : BitVec 32 := BitVec.ofNat 32 (i 1).val
  let c2_i32 : BitVec 32 := 2#32
  let v1 : BitVec 32 := Scalar.remsi arg1 c2_i32
  let c23_i32_120 : BitVec 32 := 23#32
  let c0_i32_121 : BitVec 32 := 0#32
  let c0_i32_122 : BitVec 32 := 0#32
  ![v1.toNat, 23, 0, 0]
def k0_off231 (i : grid0.Coords) : Fin 4 → Nat :=
  let arg1 : BitVec 32 := BitVec.ofNat 32 (i 1).val
  let c2_i32 : BitVec 32 := 2#32
  let v1 : BitVec 32 := Scalar.remsi arg1 c2_i32
  let c24_i32_125 : BitVec 32 := 24#32
  let c0_i32_126 : BitVec 32 := 0#32
  let c0_i32_127 : BitVec 32 := 0#32
  ![v1.toNat, 24, 0, 0]
def k0_off232 (i : grid0.Coords) : Fin 4 → Nat :=
  let arg1 : BitVec 32 := BitVec.ofNat 32 (i 1).val
  let c2_i32 : BitVec 32 := 2#32
  let v1 : BitVec 32 := Scalar.remsi arg1 c2_i32
  let c25_i32_130 : BitVec 32 := 25#32
  let c0_i32_131 : BitVec 32 := 0#32
  let c0_i32_132 : BitVec 32 := 0#32
  ![v1.toNat, 25, 0, 0]
def k0_off233 (i : grid0.Coords) : Fin 4 → Nat :=
  let arg1 : BitVec 32 := BitVec.ofNat 32 (i 1).val
  let c2_i32 : BitVec 32 := 2#32
  let v1 : BitVec 32 := Scalar.remsi arg1 c2_i32
  let c26_i32_135 : BitVec 32 := 26#32
  let c0_i32_136 : BitVec 32 := 0#32
  let c0_i32_137 : BitVec 32 := 0#32
  ![v1.toNat, 26, 0, 0]
def k0_off234 (i : grid0.Coords) : Fin 4 → Nat :=
  let arg1 : BitVec 32 := BitVec.ofNat 32 (i 1).val
  let c2_i32 : BitVec 32 := 2#32
  let v1 : BitVec 32 := Scalar.remsi arg1 c2_i32
  let c27_i32_140 : BitVec 32 := 27#32
  let c0_i32_141 : BitVec 32 := 0#32
  let c0_i32_142 : BitVec 32 := 0#32
  ![v1.toNat, 27, 0, 0]
def k0_off235 (i : grid0.Coords) : Fin 4 → Nat :=
  let arg1 : BitVec 32 := BitVec.ofNat 32 (i 1).val
  let c2_i32 : BitVec 32 := 2#32
  let v1 : BitVec 32 := Scalar.remsi arg1 c2_i32
  let c28_i32_145 : BitVec 32 := 28#32
  let c0_i32_146 : BitVec 32 := 0#32
  let c0_i32_147 : BitVec 32 := 0#32
  ![v1.toNat, 28, 0, 0]
def k0_off236 (i : grid0.Coords) : Fin 4 → Nat :=
  let arg1 : BitVec 32 := BitVec.ofNat 32 (i 1).val
  let c2_i32 : BitVec 32 := 2#32
  let v1 : BitVec 32 := Scalar.remsi arg1 c2_i32
  let c29_i32_150 : BitVec 32 := 29#32
  let c0_i32_151 : BitVec 32 := 0#32
  let c0_i32_152 : BitVec 32 := 0#32
  ![v1.toNat, 29, 0, 0]
def k0_off237 (i : grid0.Coords) : Fin 4 → Nat :=
  let arg1 : BitVec 32 := BitVec.ofNat 32 (i 1).val
  let c2_i32 : BitVec 32 := 2#32
  let v1 : BitVec 32 := Scalar.remsi arg1 c2_i32
  let c30_i32_155 : BitVec 32 := 30#32
  let c0_i32_156 : BitVec 32 := 0#32
  let c0_i32_157 : BitVec 32 := 0#32
  ![v1.toNat, 30, 0, 0]
def k0_off238 (i : grid0.Coords) : Fin 4 → Nat :=
  let arg1 : BitVec 32 := BitVec.ofNat 32 (i 1).val
  let c2_i32 : BitVec 32 := 2#32
  let v1 : BitVec 32 := Scalar.remsi arg1 c2_i32
  let c31_i32_160 : BitVec 32 := 31#32
  let c0_i32_161 : BitVec 32 := 0#32
  let c0_i32_162 : BitVec 32 := 0#32
  ![v1.toNat, 31, 0, 0]
def k0_off239 (i : grid0.Coords) : Fin 4 → Nat :=
  let arg1 : BitVec 32 := BitVec.ofNat 32 (i 1).val
  let c2_i32 : BitVec 32 := 2#32
  let v1 : BitVec 32 := Scalar.remsi arg1 c2_i32
  let c32_i32_165 : BitVec 32 := 32#32
  let c0_i32_166 : BitVec 32 := 0#32
  let c0_i32_167 : BitVec 32 := 0#32
  ![v1.toNat, 32, 0, 0]
def k0_off240 (i : grid0.Coords) : Fin 4 → Nat :=
  let arg1 : BitVec 32 := BitVec.ofNat 32 (i 1).val
  let c2_i32 : BitVec 32 := 2#32
  let v1 : BitVec 32 := Scalar.remsi arg1 c2_i32
  let c33_i32_170 : BitVec 32 := 33#32
  let c0_i32_171 : BitVec 32 := 0#32
  let c0_i32_172 : BitVec 32 := 0#32
  ![v1.toNat, 33, 0, 0]
def k0_off241 (i : grid0.Coords) : Fin 4 → Nat :=
  let arg1 : BitVec 32 := BitVec.ofNat 32 (i 1).val
  let c2_i32 : BitVec 32 := 2#32
  let v1 : BitVec 32 := Scalar.remsi arg1 c2_i32
  let c34_i32_175 : BitVec 32 := 34#32
  let c0_i32_176 : BitVec 32 := 0#32
  let c0_i32_177 : BitVec 32 := 0#32
  ![v1.toNat, 34, 0, 0]
def k0_off242 (i : grid0.Coords) : Fin 4 → Nat :=
  let arg1 : BitVec 32 := BitVec.ofNat 32 (i 1).val
  let c2_i32 : BitVec 32 := 2#32
  let v1 : BitVec 32 := Scalar.remsi arg1 c2_i32
  let c35_i32_180 : BitVec 32 := 35#32
  let c0_i32_181 : BitVec 32 := 0#32
  let c0_i32_182 : BitVec 32 := 0#32
  ![v1.toNat, 35, 0, 0]
def k0_off243 (i : grid0.Coords) : Fin 4 → Nat :=
  let arg1 : BitVec 32 := BitVec.ofNat 32 (i 1).val
  let c2_i32 : BitVec 32 := 2#32
  let v1 : BitVec 32 := Scalar.remsi arg1 c2_i32
  let c36_i32_185 : BitVec 32 := 36#32
  let c0_i32_186 : BitVec 32 := 0#32
  let c0_i32_187 : BitVec 32 := 0#32
  ![v1.toNat, 36, 0, 0]
def k0_off244 (i : grid0.Coords) : Fin 4 → Nat :=
  let arg1 : BitVec 32 := BitVec.ofNat 32 (i 1).val
  let c2_i32 : BitVec 32 := 2#32
  let v1 : BitVec 32 := Scalar.remsi arg1 c2_i32
  let c37_i32_190 : BitVec 32 := 37#32
  let c0_i32_191 : BitVec 32 := 0#32
  let c0_i32_192 : BitVec 32 := 0#32
  ![v1.toNat, 37, 0, 0]
def k0_off245 (i : grid0.Coords) : Fin 4 → Nat :=
  let arg1 : BitVec 32 := BitVec.ofNat 32 (i 1).val
  let c2_i32 : BitVec 32 := 2#32
  let v1 : BitVec 32 := Scalar.remsi arg1 c2_i32
  let c38_i32_195 : BitVec 32 := 38#32
  let c0_i32_196 : BitVec 32 := 0#32
  let c0_i32_197 : BitVec 32 := 0#32
  ![v1.toNat, 38, 0, 0]
def k0_off246 (i : grid0.Coords) : Fin 4 → Nat :=
  let arg1 : BitVec 32 := BitVec.ofNat 32 (i 1).val
  let c2_i32 : BitVec 32 := 2#32
  let v1 : BitVec 32 := Scalar.remsi arg1 c2_i32
  let c39_i32_200 : BitVec 32 := 39#32
  let c0_i32_201 : BitVec 32 := 0#32
  let c0_i32_202 : BitVec 32 := 0#32
  ![v1.toNat, 39, 0, 0]
def k0_off247 (i : grid0.Coords) : Fin 4 → Nat :=
  let arg1 : BitVec 32 := BitVec.ofNat 32 (i 1).val
  let c2_i32 : BitVec 32 := 2#32
  let v1 : BitVec 32 := Scalar.remsi arg1 c2_i32
  let c40_i32_205 : BitVec 32 := 40#32
  let c0_i32_206 : BitVec 32 := 0#32
  let c0_i32_207 : BitVec 32 := 0#32
  ![v1.toNat, 40, 0, 0]
def k0_off248 (i : grid0.Coords) : Fin 4 → Nat :=
  let arg1 : BitVec 32 := BitVec.ofNat 32 (i 1).val
  let c2_i32 : BitVec 32 := 2#32
  let v1 : BitVec 32 := Scalar.remsi arg1 c2_i32
  let c41_i32_210 : BitVec 32 := 41#32
  let c0_i32_211 : BitVec 32 := 0#32
  let c0_i32_212 : BitVec 32 := 0#32
  ![v1.toNat, 41, 0, 0]
def k0_off249 (i : grid0.Coords) : Fin 4 → Nat :=
  let arg1 : BitVec 32 := BitVec.ofNat 32 (i 1).val
  let c2_i32 : BitVec 32 := 2#32
  let v1 : BitVec 32 := Scalar.remsi arg1 c2_i32
  let c42_i32_215 : BitVec 32 := 42#32
  let c0_i32_216 : BitVec 32 := 0#32
  let c0_i32_217 : BitVec 32 := 0#32
  ![v1.toNat, 42, 0, 0]
def k0_off250 (i : grid0.Coords) : Fin 4 → Nat :=
  let arg1 : BitVec 32 := BitVec.ofNat 32 (i 1).val
  let c2_i32 : BitVec 32 := 2#32
  let v1 : BitVec 32 := Scalar.remsi arg1 c2_i32
  let c43_i32_220 : BitVec 32 := 43#32
  let c0_i32_221 : BitVec 32 := 0#32
  let c0_i32_222 : BitVec 32 := 0#32
  ![v1.toNat, 43, 0, 0]
def k0_off251 (i : grid0.Coords) : Fin 4 → Nat :=
  let arg1 : BitVec 32 := BitVec.ofNat 32 (i 1).val
  let c2_i32 : BitVec 32 := 2#32
  let v1 : BitVec 32 := Scalar.remsi arg1 c2_i32
  let c44_i32_225 : BitVec 32 := 44#32
  let c0_i32_226 : BitVec 32 := 0#32
  let c0_i32_227 : BitVec 32 := 0#32
  ![v1.toNat, 44, 0, 0]
def k0_off252 (i : grid0.Coords) : Fin 4 → Nat :=
  let arg1 : BitVec 32 := BitVec.ofNat 32 (i 1).val
  let c2_i32 : BitVec 32 := 2#32
  let v1 : BitVec 32 := Scalar.remsi arg1 c2_i32
  let c45_i32_230 : BitVec 32 := 45#32
  let c0_i32_231 : BitVec 32 := 0#32
  let c0_i32_232 : BitVec 32 := 0#32
  ![v1.toNat, 45, 0, 0]
def k0_off253 (i : grid0.Coords) : Fin 4 → Nat :=
  let arg1 : BitVec 32 := BitVec.ofNat 32 (i 1).val
  let c2_i32 : BitVec 32 := 2#32
  let v1 : BitVec 32 := Scalar.remsi arg1 c2_i32
  let c46_i32_235 : BitVec 32 := 46#32
  let c0_i32_236 : BitVec 32 := 0#32
  let c0_i32_237 : BitVec 32 := 0#32
  ![v1.toNat, 46, 0, 0]
def k0_off254 (i : grid0.Coords) : Fin 4 → Nat :=
  let arg1 : BitVec 32 := BitVec.ofNat 32 (i 1).val
  let c2_i32 : BitVec 32 := 2#32
  let v1 : BitVec 32 := Scalar.remsi arg1 c2_i32
  let c47_i32_240 : BitVec 32 := 47#32
  let c0_i32_241 : BitVec 32 := 0#32
  let c0_i32_242 : BitVec 32 := 0#32
  ![v1.toNat, 47, 0, 0]
def k0_off255 (i : grid0.Coords) : Fin 4 → Nat :=
  let arg1 : BitVec 32 := BitVec.ofNat 32 (i 1).val
  let c2_i32 : BitVec 32 := 2#32
  let v1 : BitVec 32 := Scalar.remsi arg1 c2_i32
  let c48_i32_245 : BitVec 32 := 48#32
  let c0_i32_246 : BitVec 32 := 0#32
  let c0_i32_247 : BitVec 32 := 0#32
  ![v1.toNat, 48, 0, 0]
def k0_off256 (i : grid0.Coords) : Fin 4 → Nat :=
  let arg1 : BitVec 32 := BitVec.ofNat 32 (i 1).val
  let c2_i32 : BitVec 32 := 2#32
  let v1 : BitVec 32 := Scalar.remsi arg1 c2_i32
  let c49_i32_250 : BitVec 32 := 49#32
  let c0_i32_251 : BitVec 32 := 0#32
  let c0_i32_252 : BitVec 32 := 0#32
  ![v1.toNat, 49, 0, 0]
def k0_off257 (i : grid0.Coords) : Fin 4 → Nat :=
  let arg1 : BitVec 32 := BitVec.ofNat 32 (i 1).val
  let c2_i32 : BitVec 32 := 2#32
  let v1 : BitVec 32 := Scalar.remsi arg1 c2_i32
  let c50_i32_255 : BitVec 32 := 50#32
  let c0_i32_256 : BitVec 32 := 0#32
  let c0_i32_257 : BitVec 32 := 0#32
  ![v1.toNat, 50, 0, 0]
def k0_off258 (i : grid0.Coords) : Fin 4 → Nat :=
  let arg1 : BitVec 32 := BitVec.ofNat 32 (i 1).val
  let c2_i32 : BitVec 32 := 2#32
  let v1 : BitVec 32 := Scalar.remsi arg1 c2_i32
  let c51_i32_260 : BitVec 32 := 51#32
  let c0_i32_261 : BitVec 32 := 0#32
  let c0_i32_262 : BitVec 32 := 0#32
  ![v1.toNat, 51, 0, 0]
def k0_off259 (i : grid0.Coords) : Fin 4 → Nat :=
  let arg1 : BitVec 32 := BitVec.ofNat 32 (i 1).val
  let c2_i32 : BitVec 32 := 2#32
  let v1 : BitVec 32 := Scalar.remsi arg1 c2_i32
  let c52_i32_265 : BitVec 32 := 52#32
  let c0_i32_266 : BitVec 32 := 0#32
  let c0_i32_267 : BitVec 32 := 0#32
  ![v1.toNat, 52, 0, 0]
def k0_off260 (i : grid0.Coords) : Fin 4 → Nat :=
  let arg1 : BitVec 32 := BitVec.ofNat 32 (i 1).val
  let c2_i32 : BitVec 32 := 2#32
  let v1 : BitVec 32 := Scalar.remsi arg1 c2_i32
  let c53_i32_270 : BitVec 32 := 53#32
  let c0_i32_271 : BitVec 32 := 0#32
  let c0_i32_272 : BitVec 32 := 0#32
  ![v1.toNat, 53, 0, 0]
def k0_off261 (i : grid0.Coords) : Fin 4 → Nat :=
  let arg1 : BitVec 32 := BitVec.ofNat 32 (i 1).val
  let c2_i32 : BitVec 32 := 2#32
  let v1 : BitVec 32 := Scalar.remsi arg1 c2_i32
  let c54_i32_275 : BitVec 32 := 54#32
  let c0_i32_276 : BitVec 32 := 0#32
  let c0_i32_277 : BitVec 32 := 0#32
  ![v1.toNat, 54, 0, 0]
def k0_off262 (i : grid0.Coords) : Fin 4 → Nat :=
  let arg1 : BitVec 32 := BitVec.ofNat 32 (i 1).val
  let c2_i32 : BitVec 32 := 2#32
  let v1 : BitVec 32 := Scalar.remsi arg1 c2_i32
  let c55_i32_280 : BitVec 32 := 55#32
  let c0_i32_281 : BitVec 32 := 0#32
  let c0_i32_282 : BitVec 32 := 0#32
  ![v1.toNat, 55, 0, 0]
def k0_off263 (i : grid0.Coords) : Fin 4 → Nat :=
  let arg1 : BitVec 32 := BitVec.ofNat 32 (i 1).val
  let c2_i32 : BitVec 32 := 2#32
  let v1 : BitVec 32 := Scalar.remsi arg1 c2_i32
  let c56_i32_285 : BitVec 32 := 56#32
  let c0_i32_286 : BitVec 32 := 0#32
  let c0_i32_287 : BitVec 32 := 0#32
  ![v1.toNat, 56, 0, 0]
def k0_off264 (i : grid0.Coords) : Fin 4 → Nat :=
  let arg1 : BitVec 32 := BitVec.ofNat 32 (i 1).val
  let c2_i32 : BitVec 32 := 2#32
  let v1 : BitVec 32 := Scalar.remsi arg1 c2_i32
  let c57_i32_290 : BitVec 32 := 57#32
  let c0_i32_291 : BitVec 32 := 0#32
  let c0_i32_292 : BitVec 32 := 0#32
  ![v1.toNat, 57, 0, 0]
def k0_off265 (i : grid0.Coords) : Fin 4 → Nat :=
  let arg1 : BitVec 32 := BitVec.ofNat 32 (i 1).val
  let c2_i32 : BitVec 32 := 2#32
  let v1 : BitVec 32 := Scalar.remsi arg1 c2_i32
  let c58_i32_295 : BitVec 32 := 58#32
  let c0_i32_296 : BitVec 32 := 0#32
  let c0_i32_297 : BitVec 32 := 0#32
  ![v1.toNat, 58, 0, 0]
def k0_off266 (i : grid0.Coords) : Fin 4 → Nat :=
  let arg1 : BitVec 32 := BitVec.ofNat 32 (i 1).val
  let c2_i32 : BitVec 32 := 2#32
  let v1 : BitVec 32 := Scalar.remsi arg1 c2_i32
  let c59_i32_300 : BitVec 32 := 59#32
  let c0_i32_301 : BitVec 32 := 0#32
  let c0_i32_302 : BitVec 32 := 0#32
  ![v1.toNat, 59, 0, 0]
def k0_off267 (i : grid0.Coords) : Fin 4 → Nat :=
  let arg1 : BitVec 32 := BitVec.ofNat 32 (i 1).val
  let c2_i32 : BitVec 32 := 2#32
  let v1 : BitVec 32 := Scalar.remsi arg1 c2_i32
  let c60_i32_305 : BitVec 32 := 60#32
  let c0_i32_306 : BitVec 32 := 0#32
  let c0_i32_307 : BitVec 32 := 0#32
  ![v1.toNat, 60, 0, 0]
def k0_off268 (i : grid0.Coords) : Fin 4 → Nat :=
  let arg1 : BitVec 32 := BitVec.ofNat 32 (i 1).val
  let c2_i32 : BitVec 32 := 2#32
  let v1 : BitVec 32 := Scalar.remsi arg1 c2_i32
  let c61_i32_310 : BitVec 32 := 61#32
  let c0_i32_311 : BitVec 32 := 0#32
  let c0_i32_312 : BitVec 32 := 0#32
  ![v1.toNat, 61, 0, 0]
def k0_off269 (i : grid0.Coords) : Fin 4 → Nat :=
  let arg1 : BitVec 32 := BitVec.ofNat 32 (i 1).val
  let c2_i32 : BitVec 32 := 2#32
  let v1 : BitVec 32 := Scalar.remsi arg1 c2_i32
  let c62_i32_315 : BitVec 32 := 62#32
  let c0_i32_316 : BitVec 32 := 0#32
  let c0_i32_317 : BitVec 32 := 0#32
  ![v1.toNat, 62, 0, 0]
def k0_off270 (i : grid0.Coords) : Fin 4 → Nat :=
  let arg1 : BitVec 32 := BitVec.ofNat 32 (i 1).val
  let c2_i32 : BitVec 32 := 2#32
  let v1 : BitVec 32 := Scalar.remsi arg1 c2_i32
  let c63_i32_320 : BitVec 32 := 63#32
  let c0_i32_321 : BitVec 32 := 0#32
  let c0_i32_322 : BitVec 32 := 0#32
  ![v1.toNat, 63, 0, 0]
def k0_off271 (i : grid0.Coords) : Fin 4 → Nat :=
  let arg1 : BitVec 32 := BitVec.ofNat 32 (i 1).val
  let c2_i32 : BitVec 32 := 2#32
  let v1 : BitVec 32 := Scalar.remsi arg1 c2_i32
  let c64_i32_325 : BitVec 32 := 64#32
  let c0_i32_326 : BitVec 32 := 0#32
  let c0_i32_327 : BitVec 32 := 0#32
  ![v1.toNat, 64, 0, 0]
def k0_off272 (i : grid0.Coords) : Fin 4 → Nat :=
  let arg1 : BitVec 32 := BitVec.ofNat 32 (i 1).val
  let c2_i32 : BitVec 32 := 2#32
  let v1 : BitVec 32 := Scalar.remsi arg1 c2_i32
  let c65_i32_330 : BitVec 32 := 65#32
  let c0_i32_331 : BitVec 32 := 0#32
  let c0_i32_332 : BitVec 32 := 0#32
  ![v1.toNat, 65, 0, 0]
def k0_off273 (i : grid0.Coords) : Fin 4 → Nat :=
  let arg1 : BitVec 32 := BitVec.ofNat 32 (i 1).val
  let c2_i32 : BitVec 32 := 2#32
  let v1 : BitVec 32 := Scalar.remsi arg1 c2_i32
  let c66_i32_335 : BitVec 32 := 66#32
  let c0_i32_336 : BitVec 32 := 0#32
  let c0_i32_337 : BitVec 32 := 0#32
  ![v1.toNat, 66, 0, 0]
def k0_off274 (i : grid0.Coords) : Fin 4 → Nat :=
  let arg1 : BitVec 32 := BitVec.ofNat 32 (i 1).val
  let c2_i32 : BitVec 32 := 2#32
  let v1 : BitVec 32 := Scalar.remsi arg1 c2_i32
  let c67_i32_340 : BitVec 32 := 67#32
  let c0_i32_341 : BitVec 32 := 0#32
  let c0_i32_342 : BitVec 32 := 0#32
  ![v1.toNat, 67, 0, 0]
def k0_off275 (i : grid0.Coords) : Fin 4 → Nat :=
  let arg1 : BitVec 32 := BitVec.ofNat 32 (i 1).val
  let c2_i32 : BitVec 32 := 2#32
  let v1 : BitVec 32 := Scalar.remsi arg1 c2_i32
  let c68_i32_345 : BitVec 32 := 68#32
  let c0_i32_346 : BitVec 32 := 0#32
  let c0_i32_347 : BitVec 32 := 0#32
  ![v1.toNat, 68, 0, 0]
def k0_off276 (i : grid0.Coords) : Fin 4 → Nat :=
  let arg1 : BitVec 32 := BitVec.ofNat 32 (i 1).val
  let c2_i32 : BitVec 32 := 2#32
  let v1 : BitVec 32 := Scalar.remsi arg1 c2_i32
  let c69_i32_350 : BitVec 32 := 69#32
  let c0_i32_351 : BitVec 32 := 0#32
  let c0_i32_352 : BitVec 32 := 0#32
  ![v1.toNat, 69, 0, 0]
def k0_off277 (i : grid0.Coords) : Fin 4 → Nat :=
  let arg1 : BitVec 32 := BitVec.ofNat 32 (i 1).val
  let c2_i32 : BitVec 32 := 2#32
  let v1 : BitVec 32 := Scalar.remsi arg1 c2_i32
  let c70_i32_355 : BitVec 32 := 70#32
  let c0_i32_356 : BitVec 32 := 0#32
  let c0_i32_357 : BitVec 32 := 0#32
  ![v1.toNat, 70, 0, 0]
def k0_off278 (i : grid0.Coords) : Fin 4 → Nat :=
  let arg1 : BitVec 32 := BitVec.ofNat 32 (i 1).val
  let c2_i32 : BitVec 32 := 2#32
  let v1 : BitVec 32 := Scalar.remsi arg1 c2_i32
  let c71_i32_360 : BitVec 32 := 71#32
  let c0_i32_361 : BitVec 32 := 0#32
  let c0_i32_362 : BitVec 32 := 0#32
  ![v1.toNat, 71, 0, 0]
def k0_off279 (i : grid0.Coords) : Fin 4 → Nat :=
  let arg1 : BitVec 32 := BitVec.ofNat 32 (i 1).val
  let c2_i32 : BitVec 32 := 2#32
  let v1 : BitVec 32 := Scalar.remsi arg1 c2_i32
  let c72_i32_365 : BitVec 32 := 72#32
  let c0_i32_366 : BitVec 32 := 0#32
  let c0_i32_367 : BitVec 32 := 0#32
  ![v1.toNat, 72, 0, 0]
def k0_off280 (i : grid0.Coords) : Fin 4 → Nat :=
  let arg1 : BitVec 32 := BitVec.ofNat 32 (i 1).val
  let c2_i32 : BitVec 32 := 2#32
  let v1 : BitVec 32 := Scalar.remsi arg1 c2_i32
  let c73_i32_370 : BitVec 32 := 73#32
  let c0_i32_371 : BitVec 32 := 0#32
  let c0_i32_372 : BitVec 32 := 0#32
  ![v1.toNat, 73, 0, 0]
def k0_off281 (i : grid0.Coords) : Fin 4 → Nat :=
  let arg1 : BitVec 32 := BitVec.ofNat 32 (i 1).val
  let c2_i32 : BitVec 32 := 2#32
  let v1 : BitVec 32 := Scalar.remsi arg1 c2_i32
  let c74_i32_375 : BitVec 32 := 74#32
  let c0_i32_376 : BitVec 32 := 0#32
  let c0_i32_377 : BitVec 32 := 0#32
  ![v1.toNat, 74, 0, 0]
def k0_off282 (i : grid0.Coords) : Fin 4 → Nat :=
  let arg1 : BitVec 32 := BitVec.ofNat 32 (i 1).val
  let c2_i32 : BitVec 32 := 2#32
  let v1 : BitVec 32 := Scalar.remsi arg1 c2_i32
  let c75_i32_380 : BitVec 32 := 75#32
  let c0_i32_381 : BitVec 32 := 0#32
  let c0_i32_382 : BitVec 32 := 0#32
  ![v1.toNat, 75, 0, 0]
def k0_off283 (i : grid0.Coords) : Fin 4 → Nat :=
  let arg1 : BitVec 32 := BitVec.ofNat 32 (i 1).val
  let c2_i32 : BitVec 32 := 2#32
  let v1 : BitVec 32 := Scalar.remsi arg1 c2_i32
  let c76_i32_385 : BitVec 32 := 76#32
  let c0_i32_386 : BitVec 32 := 0#32
  let c0_i32_387 : BitVec 32 := 0#32
  ![v1.toNat, 76, 0, 0]
def k0_off284 (i : grid0.Coords) : Fin 4 → Nat :=
  let arg1 : BitVec 32 := BitVec.ofNat 32 (i 1).val
  let c2_i32 : BitVec 32 := 2#32
  let v1 : BitVec 32 := Scalar.remsi arg1 c2_i32
  let c77_i32_390 : BitVec 32 := 77#32
  let c0_i32_391 : BitVec 32 := 0#32
  let c0_i32_392 : BitVec 32 := 0#32
  ![v1.toNat, 77, 0, 0]
def k0_off285 (i : grid0.Coords) : Fin 4 → Nat :=
  let arg1 : BitVec 32 := BitVec.ofNat 32 (i 1).val
  let c2_i32 : BitVec 32 := 2#32
  let v1 : BitVec 32 := Scalar.remsi arg1 c2_i32
  let c78_i32_395 : BitVec 32 := 78#32
  let c0_i32_396 : BitVec 32 := 0#32
  let c0_i32_397 : BitVec 32 := 0#32
  ![v1.toNat, 78, 0, 0]
def k0_off286 (i : grid0.Coords) : Fin 4 → Nat :=
  let arg1 : BitVec 32 := BitVec.ofNat 32 (i 1).val
  let c2_i32 : BitVec 32 := 2#32
  let v1 : BitVec 32 := Scalar.remsi arg1 c2_i32
  let c79_i32_400 : BitVec 32 := 79#32
  let c0_i32_401 : BitVec 32 := 0#32
  let c0_i32_402 : BitVec 32 := 0#32
  ![v1.toNat, 79, 0, 0]
def k0_off287 (i : grid0.Coords) : Fin 4 → Nat :=
  let arg1 : BitVec 32 := BitVec.ofNat 32 (i 1).val
  let c2_i32 : BitVec 32 := 2#32
  let v1 : BitVec 32 := Scalar.remsi arg1 c2_i32
  let c80_i32_405 : BitVec 32 := 80#32
  let c0_i32_406 : BitVec 32 := 0#32
  let c0_i32_407 : BitVec 32 := 0#32
  ![v1.toNat, 80, 0, 0]
def k0_off288 (i : grid0.Coords) : Fin 4 → Nat :=
  let arg1 : BitVec 32 := BitVec.ofNat 32 (i 1).val
  let c2_i32 : BitVec 32 := 2#32
  let v1 : BitVec 32 := Scalar.remsi arg1 c2_i32
  let c81_i32_410 : BitVec 32 := 81#32
  let c0_i32_411 : BitVec 32 := 0#32
  let c0_i32_412 : BitVec 32 := 0#32
  ![v1.toNat, 81, 0, 0]
def k0_off289 (i : grid0.Coords) : Fin 4 → Nat :=
  let arg1 : BitVec 32 := BitVec.ofNat 32 (i 1).val
  let c2_i32 : BitVec 32 := 2#32
  let v1 : BitVec 32 := Scalar.remsi arg1 c2_i32
  let c82_i32_415 : BitVec 32 := 82#32
  let c0_i32_416 : BitVec 32 := 0#32
  let c0_i32_417 : BitVec 32 := 0#32
  ![v1.toNat, 82, 0, 0]
def k0_off290 (i : grid0.Coords) : Fin 4 → Nat :=
  let arg1 : BitVec 32 := BitVec.ofNat 32 (i 1).val
  let c2_i32 : BitVec 32 := 2#32
  let v1 : BitVec 32 := Scalar.remsi arg1 c2_i32
  let c83_i32_420 : BitVec 32 := 83#32
  let c0_i32_421 : BitVec 32 := 0#32
  let c0_i32_422 : BitVec 32 := 0#32
  ![v1.toNat, 83, 0, 0]
def k0_off291 (i : grid0.Coords) : Fin 4 → Nat :=
  let arg1 : BitVec 32 := BitVec.ofNat 32 (i 1).val
  let c2_i32 : BitVec 32 := 2#32
  let v1 : BitVec 32 := Scalar.remsi arg1 c2_i32
  let c84_i32_425 : BitVec 32 := 84#32
  let c0_i32_426 : BitVec 32 := 0#32
  let c0_i32_427 : BitVec 32 := 0#32
  ![v1.toNat, 84, 0, 0]
def k0_off292 (i : grid0.Coords) : Fin 4 → Nat :=
  let arg1 : BitVec 32 := BitVec.ofNat 32 (i 1).val
  let c2_i32 : BitVec 32 := 2#32
  let v1 : BitVec 32 := Scalar.remsi arg1 c2_i32
  let c85_i32_430 : BitVec 32 := 85#32
  let c0_i32_431 : BitVec 32 := 0#32
  let c0_i32_432 : BitVec 32 := 0#32
  ![v1.toNat, 85, 0, 0]
def k0_off293 (i : grid0.Coords) : Fin 4 → Nat :=
  let arg1 : BitVec 32 := BitVec.ofNat 32 (i 1).val
  let c2_i32 : BitVec 32 := 2#32
  let v1 : BitVec 32 := Scalar.remsi arg1 c2_i32
  let c86_i32_435 : BitVec 32 := 86#32
  let c0_i32_436 : BitVec 32 := 0#32
  let c0_i32_437 : BitVec 32 := 0#32
  ![v1.toNat, 86, 0, 0]
def k0_off294 (i : grid0.Coords) : Fin 4 → Nat :=
  let arg1 : BitVec 32 := BitVec.ofNat 32 (i 1).val
  let c2_i32 : BitVec 32 := 2#32
  let v1 : BitVec 32 := Scalar.remsi arg1 c2_i32
  let c87_i32_440 : BitVec 32 := 87#32
  let c0_i32_441 : BitVec 32 := 0#32
  let c0_i32_442 : BitVec 32 := 0#32
  ![v1.toNat, 87, 0, 0]
def k0_off295 (i : grid0.Coords) : Fin 4 → Nat :=
  let arg1 : BitVec 32 := BitVec.ofNat 32 (i 1).val
  let c2_i32 : BitVec 32 := 2#32
  let v1 : BitVec 32 := Scalar.remsi arg1 c2_i32
  let c88_i32_445 : BitVec 32 := 88#32
  let c0_i32_446 : BitVec 32 := 0#32
  let c0_i32_447 : BitVec 32 := 0#32
  ![v1.toNat, 88, 0, 0]
def k0_off296 (i : grid0.Coords) : Fin 4 → Nat :=
  let arg1 : BitVec 32 := BitVec.ofNat 32 (i 1).val
  let c2_i32 : BitVec 32 := 2#32
  let v1 : BitVec 32 := Scalar.remsi arg1 c2_i32
  let c89_i32_450 : BitVec 32 := 89#32
  let c0_i32_451 : BitVec 32 := 0#32
  let c0_i32_452 : BitVec 32 := 0#32
  ![v1.toNat, 89, 0, 0]
def k0_off297 (i : grid0.Coords) : Fin 4 → Nat :=
  let arg1 : BitVec 32 := BitVec.ofNat 32 (i 1).val
  let c2_i32 : BitVec 32 := 2#32
  let v1 : BitVec 32 := Scalar.remsi arg1 c2_i32
  let c90_i32_455 : BitVec 32 := 90#32
  let c0_i32_456 : BitVec 32 := 0#32
  let c0_i32_457 : BitVec 32 := 0#32
  ![v1.toNat, 90, 0, 0]
def k0_off298 (i : grid0.Coords) : Fin 4 → Nat :=
  let arg1 : BitVec 32 := BitVec.ofNat 32 (i 1).val
  let c2_i32 : BitVec 32 := 2#32
  let v1 : BitVec 32 := Scalar.remsi arg1 c2_i32
  let c91_i32_460 : BitVec 32 := 91#32
  let c0_i32_461 : BitVec 32 := 0#32
  let c0_i32_462 : BitVec 32 := 0#32
  ![v1.toNat, 91, 0, 0]
def k0_off299 (i : grid0.Coords) : Fin 4 → Nat :=
  let arg1 : BitVec 32 := BitVec.ofNat 32 (i 1).val
  let c2_i32 : BitVec 32 := 2#32
  let v1 : BitVec 32 := Scalar.remsi arg1 c2_i32
  let c92_i32_465 : BitVec 32 := 92#32
  let c0_i32_466 : BitVec 32 := 0#32
  let c0_i32_467 : BitVec 32 := 0#32
  ![v1.toNat, 92, 0, 0]
def k0_off300 (i : grid0.Coords) : Fin 4 → Nat :=
  let arg1 : BitVec 32 := BitVec.ofNat 32 (i 1).val
  let c2_i32 : BitVec 32 := 2#32
  let v1 : BitVec 32 := Scalar.remsi arg1 c2_i32
  let c93_i32_470 : BitVec 32 := 93#32
  let c0_i32_471 : BitVec 32 := 0#32
  let c0_i32_472 : BitVec 32 := 0#32
  ![v1.toNat, 93, 0, 0]
def k0_off301 (i : grid0.Coords) : Fin 4 → Nat :=
  let arg1 : BitVec 32 := BitVec.ofNat 32 (i 1).val
  let c2_i32 : BitVec 32 := 2#32
  let v1 : BitVec 32 := Scalar.remsi arg1 c2_i32
  let c94_i32_475 : BitVec 32 := 94#32
  let c0_i32_476 : BitVec 32 := 0#32
  let c0_i32_477 : BitVec 32 := 0#32
  ![v1.toNat, 94, 0, 0]
def k0_off302 (i : grid0.Coords) : Fin 4 → Nat :=
  let arg1 : BitVec 32 := BitVec.ofNat 32 (i 1).val
  let c2_i32 : BitVec 32 := 2#32
  let v1 : BitVec 32 := Scalar.remsi arg1 c2_i32
  let c95_i32_480 : BitVec 32 := 95#32
  let c0_i32_481 : BitVec 32 := 0#32
  let c0_i32_482 : BitVec 32 := 0#32
  ![v1.toNat, 95, 0, 0]
def k0_off303 (i : grid0.Coords) : Fin 4 → Nat :=
  let arg1 : BitVec 32 := BitVec.ofNat 32 (i 1).val
  let c2_i32 : BitVec 32 := 2#32
  let v1 : BitVec 32 := Scalar.remsi arg1 c2_i32
  let c96_i32_485 : BitVec 32 := 96#32
  let c0_i32_486 : BitVec 32 := 0#32
  let c0_i32_487 : BitVec 32 := 0#32
  ![v1.toNat, 96, 0, 0]
def k0_off304 (i : grid0.Coords) : Fin 4 → Nat :=
  let arg1 : BitVec 32 := BitVec.ofNat 32 (i 1).val
  let c2_i32 : BitVec 32 := 2#32
  let v1 : BitVec 32 := Scalar.remsi arg1 c2_i32
  let c97_i32_490 : BitVec 32 := 97#32
  let c0_i32_491 : BitVec 32 := 0#32
  let c0_i32_492 : BitVec 32 := 0#32
  ![v1.toNat, 97, 0, 0]
def k0_off305 (i : grid0.Coords) : Fin 4 → Nat :=
  let arg1 : BitVec 32 := BitVec.ofNat 32 (i 1).val
  let c2_i32 : BitVec 32 := 2#32
  let v1 : BitVec 32 := Scalar.remsi arg1 c2_i32
  let c98_i32_495 : BitVec 32 := 98#32
  let c0_i32_496 : BitVec 32 := 0#32
  let c0_i32_497 : BitVec 32 := 0#32
  ![v1.toNat, 98, 0, 0]
def k0_off306 (i : grid0.Coords) : Fin 4 → Nat :=
  let arg1 : BitVec 32 := BitVec.ofNat 32 (i 1).val
  let c2_i32 : BitVec 32 := 2#32
  let v1 : BitVec 32 := Scalar.remsi arg1 c2_i32
  let c99_i32_500 : BitVec 32 := 99#32
  let c0_i32_501 : BitVec 32 := 0#32
  let c0_i32_502 : BitVec 32 := 0#32
  ![v1.toNat, 99, 0, 0]
def k0_off307 (i : grid0.Coords) : Fin 4 → Nat :=
  let arg1 : BitVec 32 := BitVec.ofNat 32 (i 1).val
  let c2_i32 : BitVec 32 := 2#32
  let v1 : BitVec 32 := Scalar.remsi arg1 c2_i32
  let v808 : Index := Scalar.indexCast v1
  let c0 : Index := 0#32
  let c0_504 : Index := 0#32
  let c0_505 : Index := 0#32
  ![v808.toNat, 0, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S256x1000x256 : Shape := ⟨3, ![256, 1000, 256]⟩
abbrev S10x64x256 : Shape := ⟨3, ![10, 64, 256]⟩
abbrev S10x64x64 : Shape := ⟨3, ![10, 64, 64]⟩
abbrev S10x64 : Shape := ⟨2, ![10, 64]⟩
abbrev S10 : Shape := ⟨1, ![10]⟩
abbrev S256x10x100x256 : Shape := ⟨4, ![256, 10, 100, 256]⟩
abbrev S10x256x100x256 : Shape := ⟨4, ![10, 256, 100, 256]⟩
abbrev S10x256x100x64 : Shape := ⟨4, ![10, 256, 100, 64]⟩
abbrev S10x1x1x64 : Shape := ⟨4, ![10, 1, 1, 64]⟩
abbrev S10x100x256x64 : Shape := ⟨4, ![10, 100, 256, 64]⟩
abbrev S1000x256x64 : Shape := ⟨3, ![1000, 256, 64]⟩
abbrev S10x1x64x64 : Shape := ⟨4, ![10, 1, 64, 64]⟩
abbrev S10x100x64x64 : Shape := ⟨4, ![10, 100, 64, 64]⟩
abbrev S1000x64x64 : Shape := ⟨3, ![1000, 64, 64]⟩
abbrev S10x1x64 : Shape := ⟨3, ![10, 1, 64]⟩
abbrev S10x100x64 : Shape := ⟨3, ![10, 100, 64]⟩
abbrev S1000x64 : Shape := ⟨2, ![1000, 64]⟩
abbrev S_ : Shape := ⟨0, ![]⟩
abbrev S256x64 : Shape := ⟨2, ![256, 64]⟩
abbrev S1x256x64 : Shape := ⟨3, ![1, 256, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10x100x256 : Shape := ⟨3, ![10, 100, 256]⟩
abbrev S10x1x1 : Shape := ⟨3, ![10, 1, 1]⟩
abbrev S1000x256 : Shape := ⟨2, ![1000, 256]⟩
abbrev S256x1000 : Shape := ⟨2, ![256, 1000]⟩
abbrev S256x1000x1 : Shape := ⟨3, ![256, 1000, 1]⟩

abbrev nBuf : Space → Nat
  | .hbm => 74
  | .vmem => 0
  | .smem => 0
  | _ => 0

abbrev bufTy : (tb : Table) → Fin (tcTables nBuf tb) → BufTy
  | .hbm, ⟨0, _⟩ => ⟨S256x1000x256, .f32⟩
  | .hbm, ⟨1, _⟩ => ⟨S10x64x256, .f32⟩
  | .hbm, ⟨2, _⟩ => ⟨S10x64x64, .f32⟩
  | .hbm, ⟨3, _⟩ => ⟨S10x64, .f32⟩
  | .hbm, ⟨4, _⟩ => ⟨S10x64, .f32⟩
  | .hbm, ⟨5, _⟩ => ⟨S10x64, .f32⟩
  | .hbm, ⟨6, _⟩ => ⟨S10, .f32⟩
  | .hbm, ⟨7, _⟩ => ⟨S256x10x100x256, .f32⟩
  | .hbm, ⟨8, _⟩ => ⟨S10x256x100x256, .f32⟩
  | .hbm, ⟨9, _⟩ => ⟨S10x256x100x64, .f32⟩
  | .hbm, ⟨10, _⟩ => ⟨S10x1x1x64, .f32⟩
  | .hbm, ⟨11, _⟩ => ⟨S10x256x100x64, .f32⟩
  | .hbm, ⟨12, _⟩ => ⟨S10x256x100x64, .f32⟩
  | .hbm, ⟨13, _⟩ => ⟨S10x100x256x64, .f32⟩
  | .hbm, ⟨14, _⟩ => ⟨S1000x256x64, .f32⟩
  | .hbm, ⟨15, _⟩ => ⟨S10x1x64x64, .f32⟩
  | .hbm, ⟨16, _⟩ => ⟨S10x100x64x64, .f32⟩
  | .hbm, ⟨17, _⟩ => ⟨S1000x64x64, .f32⟩
  | .hbm, ⟨18, _⟩ => ⟨S10x1x64, .f32⟩
  | .hbm, ⟨19, _⟩ => ⟨S10x100x64, .f32⟩
  | .hbm, ⟨20, _⟩ => ⟨S1000x64, .f32⟩
  | .hbm, ⟨21, _⟩ => ⟨S_, .f32⟩
  | .hbm, ⟨22, _⟩ => ⟨S256x64, .f32⟩
  | .hbm, ⟨23, _⟩ => ⟨S_, .f32⟩
  | .hbm, ⟨24, _⟩ => ⟨S1000x256x64, .f32⟩
  | .hbm, ⟨25, _⟩ => ⟨S_, .i32⟩
  | .hbm, ⟨26, _⟩ => ⟨S1000x256x64, .f32⟩
  | .hbm, ⟨27, _⟩ => ⟨S1000x64x64, .f32⟩
  | .hbm, ⟨28, _⟩ => ⟨S1000x64, .f32⟩
  | .hbm, ⟨29, _⟩ => ⟨S_, .i32⟩
  | .hbm, ⟨30, _⟩ => ⟨S256x64, .f32⟩
  | .hbm, ⟨31, _⟩ => ⟨S1000x256x64, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1x256x64, .f32⟩
  | .hbm, ⟨37, _⟩ => ⟨S256x64, .f32⟩
  | .hbm, ⟨38, _⟩ => ⟨S_, .i32⟩
  | .hbm, ⟨39, _⟩ => ⟨S_, .i32⟩
  | .hbm, ⟨40, _⟩ => ⟨S1x64x64, .f32⟩
  | .hbm, ⟨41, _⟩ => ⟨S64x64, .f32⟩
  | .hbm, ⟨42, _⟩ => ⟨S_, .i32⟩
  | .hbm, ⟨43, _⟩ => ⟨S1x64, .f32⟩
  | .hbm, ⟨44, _⟩ => ⟨S64, .f32⟩
  | .hbm, ⟨45, _⟩ => ⟨S64x64, .f32⟩
  | .hbm, ⟨46, _⟩ => ⟨S256x64, .f32⟩
  | .hbm, ⟨47, _⟩ => ⟨S256x64, .f32⟩
  | .hbm, ⟨48, _⟩ => ⟨S1x64, .f32⟩
  | .hbm, ⟨49, _⟩ => ⟨S256x64, .f32⟩
  | .hbm, ⟨50, _⟩ => ⟨S256x64, .f32⟩
  | .hbm, ⟨51, _⟩ => ⟨S256x64, .f32⟩
  | .hbm, ⟨52, _⟩ => ⟨S1x256x64, .f32⟩
  | .hbm, ⟨53, _⟩ => ⟨S_, .i32⟩
  | .hbm, ⟨54, _⟩ => ⟨S_, .i32⟩
  | .hbm, ⟨55, _⟩ => ⟨S1000x256x64, .f32⟩
  | .hbm, ⟨56, _⟩ => ⟨S_, .i32⟩
  | .hbm, ⟨57, _⟩ => ⟨S_, .i32⟩
  | .hbm, ⟨58, _⟩ => ⟨S10x100x256x64, .f32⟩
  | .hbm, ⟨59, _⟩ => ⟨S10x100x256, .f32⟩
  | .hbm, ⟨60, _⟩ => ⟨S10x1x1, .f32⟩
  | .hbm, ⟨61, _⟩ => ⟨S10x100x256, .f32⟩
  | .hbm, ⟨62, _⟩ => ⟨S10x100x256, .f32⟩
  | .hbm, ⟨63, _⟩ => ⟨S1000x256, .f32⟩
  | .hbm, ⟨64, _⟩ => ⟨S256x1000, .f32⟩
  | .hbm, ⟨65, _⟩ => ⟨S256x1000x1, .f32⟩
  | .hbm, ⟨66, _⟩ => ⟨S256x1000x1, .f32⟩
  | .hbm, ⟨67, _⟩ => ⟨S256x1000x1, .f32⟩
  | .hbm, ⟨68, _⟩ => ⟨S_, .f32⟩
  | .hbm, ⟨69, _⟩ => ⟨S256x1000x1, .f32⟩
  | .hbm, ⟨70, _⟩ => ⟨S256x1000x1, .f32⟩
  | .hbm, ⟨71, _⟩ => ⟨S_, .f32⟩
  | .hbm, ⟨72, _⟩ => ⟨S256x1000x1, .f32⟩
  | .hbm, ⟨73, _⟩ => ⟨S256x1000x1, .f32⟩
  | _, _ => ⟨S256x1000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_c : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_while0c_c_8 : Ref sig .tc := ⟨.hbm, 32, rfl⟩
abbrev main_while0c_v31 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v31 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_v0 : Ref sig .tc := ⟨.hbm, 40, rfl⟩
abbrev main_while0b_v32 : Ref sig .tc := ⟨.hbm, 41, rfl⟩
abbrev main_while0b_call2_c : Ref sig .tc := ⟨.hbm, 42, rfl⟩
abbrev main_while0b_call2_v0 : Ref sig .tc := ⟨.hbm, 43, rfl⟩
abbrev main_while0b_v33 : Ref sig .tc := ⟨.hbm, 44, rfl⟩
abbrev main_while0b_v34 : Ref sig .tc := ⟨.hbm, 45, rfl⟩
abbrev main_while0b_v35 : Ref sig .tc := ⟨.hbm, 46, rfl⟩
abbrev main_while0b_v36 : Ref sig .tc := ⟨.hbm, 47, rfl⟩
abbrev main_while0b_v37 : Ref sig .tc := ⟨.hbm, 48, rfl⟩
abbrev main_while0b_v38 : Ref sig .tc := ⟨.hbm, 49, rfl⟩
abbrev main_while0b_v39 : Ref sig .tc := ⟨.hbm, 50, rfl⟩
abbrev main_while0b_v40 : Ref sig .tc := ⟨.hbm, 51, rfl⟩
abbrev main_while0b_call3_v0 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_v41 : Ref sig .tc := ⟨.hbm, 55, rfl⟩
abbrev main_while0b_c_8 : Ref sig .tc := ⟨.hbm, 56, rfl⟩
abbrev main_while0b_v42 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_1 : Ref sig .tc := ⟨.hbm, 68, rfl⟩
abbrev main_v27 : Ref sig .tc := ⟨.hbm, 69, rfl⟩
abbrev main_v28 : Ref sig .tc := ⟨.hbm, 70, rfl⟩
abbrev main_cst_2 : Ref sig .tc := ⟨.hbm, 71, rfl⟩
abbrev main_v29 : Ref sig .tc := ⟨.hbm, 72, rfl⟩
abbrev main_v30 : Ref sig .tc := ⟨.hbm, 73, rfl⟩

abbrev nD : Nat := 1
abbrev τ : Topo := Topo.v7x

variable {F : FTy → Type} [FloatOps F]

abbrev main_while0_count : Scf.Loop 32 := ⟨0#32, 1000#32, 1#32⟩
-- ==== Proof.IBody.lean ====
/-
  The kernel's body as loops. The printed body is straight-line: a hundred issues of one time row each (twice), a hundred waits,
  a hundred recurrence steps. Here each family is one recursive program over the row number, and the printed body is shown equal to it.
-/
module

public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.SL.Sem

variable {F : FTy → Type} [FloatOps F]

abbrev PR (F : FTy → Type) := Prog (TpuEff nD τ sig (Elt F) Λ₀ .tc)

variable (i : grid0.Coords) (arg2 : Memref sig .tc .hbm S256x1000x256 .f32)
  (arg3 : Memref sig .tc .vmem S1x256x64 .f32) (arg4 : Memref sig .tc .vmem S1x64x128 .f32)
  (arg5 : Memref sig .tc .vmem S1x1x64 .f32) (arg6 : Memref sig .tc .vmem S1x1x1 .f32)
  (arg7 : Memref sig .tc .vmem S1x128x100 .f32) (arg8 : Memref sig .tc .vmem S2x100x128x256 .f32)
  (arg9 : Memref sig .tc .vmem S12800x64 .f32) (arg10 : Memref sig .tc .vmem S128x64 .f32) (arg11 : DmaSems sig S2)

/-- Row `t` of the source, at block row `b` and segment start `u`. -/
abbrev srcM (o : Fin 3 → Nat) (h : ∀ a, o a + S128x1x256.size a ≤ S256x1000x256.size a) : Memref sig .tc .hbm S128x256 .f32 :=
  (arg2.slice (Rect.unit (s := S256x1000x256) o S128x1x256.size h) (fun _ => rfl)).squeeze S128x256 squeezes_S128x1x256_S128x256
/-- One row of a slot of the double buffer. -/
abbrev dstM (o : Fin 4 → Nat) (h : ∀ a, o a + S1x1x128x256.size a ≤ S2x100x128x256.size a) : Memref sig .tc .vmem S128x256 .f32 :=
  (arg8.slice (Rect.unit (s := S2x100x128x256) o S1x1x128x256.size h) (fun _ => rfl)).squeeze S128x256 squeezes_S1x1x128x256_S128x256
/-- One of the two semaphore cells. -/
abbrev semM (o : Fin 1 → Nat) (h : ∀ a, o a + S1.size a ≤ S2.size a) : DmaSems sig S_ :=
  (arg11.slice (Rect.unit (s := S2) o S1.size h)).squeeze S_ squeezes_S1_S_

/-- Issue one row's transfer. -/
def issue (os : Fin 3 → Nat) (hs : ∀ a, os a + S128x1x256.size a ≤ S256x1000x256.size a)
    (od : Fin 4 → Nat) (hd : ∀ a, od a + S1x1x128x256.size a ≤ S2x100x128x256.size a)
    (oc : Fin 1 → Nat) (hc : ∀ a, oc a + S1.size a ≤ S2.size a) : PR F PUnit :=
  Prog.lift (.enqueueDma (srcM arg2 os hs) (.here (dstM arg8 od hd)) (.dma (semM arg11 oc hc).sem)
    ((View.wordExact_bits rfl).reshape _ _) ((View.wordExact_bits rfl).reshape _ _) ⟨Or.inl rfl, trivial⟩)
/-- Wait for one row's worth of transfer. -/
def await (os : Fin 3 → Nat) (hs : ∀ a, os a + S128x1x256.size a ≤ S256x1000x256.size a)
    (od : Fin 4 → Nat) (hd : ∀ a, od a + S1x1x128x256.size a ≤ S2x100x128x256.size a)
    (oc : Fin 1 → Nat) (hc : ∀ a, oc a + S1.size a ≤ S2.size a) : PR F PUnit :=
  Prog.lift (.waitDma2 (semM arg11 oc hc).sem (srcM arg2 os hs) (dstM arg8 od hd)
    ((View.wordExact_bits rfl).reshape _ _) ((View.wordExact_bits rfl).reshape _ _))

/-- Run `f t, f (t + 1), …`, `n` of them, all below 100. -/
def rows (f : (t : ℕ) → t < 100 → PR F PUnit) : (n t : ℕ) → t + n ≤ 100 → PR F PUnit
  | 0, _, _ => pure ⟨⟩
  | n + 1, t, h => do f t (by omega); rows f n (t + 1) (by omega)

/-- The word of the slot in use. -/
abbrev slotW : BitVec 32 := Scalar.remsi (BitVec.ofNat 32 (i 1).val) 2#32
abbrev slotW' : BitVec 32 := Scalar.subi 1#32 (slotW i)

theorem offD_inb (w : ℕ) (hw : w < 2) (t : ℕ) (ht : t < 100) :
    ∀ a, (![w, t, 0, 0] : Fin 4 → ℕ) a + S1x1x128x256.size a ≤ S2x100x128x256.size a := by
  intro a; fin_cases a
  · show w + 1 ≤ 2; omega
  · show t + 1 ≤ 100; omega
  · show 0 + 128 ≤ 128; omega
  · show 0 + 256 ≤ 256; omega

theorem rowX_inb (t : ℕ) (ht : t < 100) : ∀ a, (![128 * t, 0] : Fin 2 → ℕ) a + S128x64.size a ≤ S12800x64.size a := by
  intro a; fin_cases a
  · show 128 * t + 128 ≤ 12800; omega
  · show 0 + 64 ≤ 64; omega
theorem colY_inb (t : ℕ) (ht : t < 100) : ∀ a, (![0, 0, t] : Fin 3 → ℕ) a + S1x128x1.size a ≤ S1x128x100.size a := by
  intro a; fin_cases a
  · show 0 + 1 ≤ 1; omega
  · show 0 + 128 ≤ 128; omega
  · show t + 1 ≤ 100; omega

theorem slotW_lt (i : grid0.Coords) : (slotW i).toNat < 2 := by
  have h := k0_off1_eq i
  have := congrFun h 0
  simp only [k0_off1, Matrix.cons_val_zero] at this
  rw [show (slotW i).toNat = _ from this]; exact Nat.mod_lt _ (by omega)

theorem slotW'_lt (i : grid0.Coords) : (slotW' i).toNat < 2 := by
  have h := k0_off103_eq i
  have := congrFun h 0
  simp only [k0_off103, Matrix.cons_val_zero] at this
  rw [show (slotW' i).toNat = _ from this]; omega

/-- The transfers of the point's own segment, issued at a block's first segment. -/
def issuesA (h1 : k0_cond1 i = 1#1) : PR F PUnit :=
  rows (fun t ht => issue arg2 arg8 arg11 (k0_off3 i (BitVec.ofNat 32 t)) (k0_off3_inb i h1 ⟨t, ht⟩) ![(slotW i).toNat, t, 0, 0] (offD_inb _ (slotW_lt i) t ht)
          (k0_off1 i) (k0_off1_inb i h1)) 100 0 (by omega)
/-- The transfers of the next segment, into the other slot. -/
def issuesB (h2 : k0_cond2 i = 1#1) (hw : (slotW' i).toNat < 2) : PR F PUnit :=
  rows (fun t ht => issue arg2 arg8 arg11 (k0_off105 i (BitVec.ofNat 32 t)) (k0_off105_inb i h2 ⟨t, ht⟩) ![(slotW' i).toNat, t, 0, 0] (offD_inb _ hw t ht)
          (k0_off103 i) (k0_off103_inb i h2)) 100 0 (by omega)
/-- The waits for the segment in use. -/
def awaits : PR F PUnit :=
  rows (fun t ht => await arg2 arg8 arg11 (k0_off207 i (BitVec.ofNat 32 t)) (k0_off207_inb i ⟨t, ht⟩) ![(slotW i).toNat, t, 0, 0] (offD_inb _ (slotW_lt i) t ht)
          (k0_off205 i) (k0_off205_inb i)) 100 0 (by omega)

/-- The hidden state is cleared at a block's first segment. -/
def clearH : PR F PUnit := do
  let _ : Vec F S128x64 .f32 ← Prog.lift (.load arg10 (Rect.unit (s := S128x64) ![0, 0] S128x64.size inb_S128x64_S128x64_0_0).toLoadRect (View.loadsAt_vmem h_S128x64))
  Prog.lift (.store arg10 (Rect.unit (s := S128x64) ![0, 0] S128x64.size inb_S128x64_S128x64_0_0) (k0_pay5 (F := F)) Finset.univ (View.stores_vmem_bits_univ h_S128x64 rfl) (.inl rfl))

def loadX (t : ℕ) (ht : t < 100) : PR F (Vec F S128x64 .f32) :=
  Prog.lift (.load arg9 (Rect.unit (s := S12800x64) ![128 * t, 0] S128x64.size (rowX_inb t ht)).toLoadRect (View.loadsAt_vmem h_S128x64))
def putY (t : ℕ) (ht : t < 100) (y : FVec F S1x128x1 .f32) : PR F PUnit := do
  let _ : Vec F S1x128x1 .f32 ← Prog.lift (.load arg7 (Rect.unit (s := S1x128x100) ![0, 0, t] S1x128x1.size (colY_inb t ht)).toLoadRect (View.loadsAt_vmem h_S1x128x1))
  Prog.lift (.store arg7 (Rect.unit (s := S1x128x100) ![0, 0, t] S1x128x1.size (colY_inb t ht)) y Finset.univ (View.stores_vmem_bits_univ h_S1x128x1 rfl) (.inl rfl))

/-- `n` recurrence steps from step `t` on: each reads its row of the projected input and writes its column of the output. -/
def stepsP (wc : FVec F S64x128 .f32) (fcb : FVec F S1x1 .f32) : (n t : ℕ) → t + n ≤ 100 → FVec F S128x128 .f32 → PR F (FVec F S128x128 .f32)
  | 0, _, _, z => pure z
  | n + 1, t, h, z => do
    let x ← loadX arg9 t (by omega)
    putY arg7 t (by omega) (k0_pay20 fcb (k0_pay10 wc z x))
    stepsP wc fcb n (t + 1) (by omega) (k0_pay10 wc z x)

/-- The projection of the segment in use, then the recurrence over its hundred rows. -/
def computeP : PR F PUnit := do
  let v809 : Vec F S1x100x128x256 .f32 ← Prog.lift (.load arg8 (Rect.unit (s := S2x100x128x256) (k0_off307 i) S1x100x128x256.size (k0_off307_inb i)).toLoadRect (View.loadsAt_vmem h_S1x100x128x256))
  let v812 : Vec F S1x256x64 .f32 ← Prog.lift (.load arg3 (Rect.unit (s := S1x256x64) ![0, 0, 0] S1x256x64.size inb_S1x256x64_S1x256x64_0_0_0).toLoadRect (View.loadsAt_vmem h_S1x256x64))
  let v815 : Vec F S1x1x64 .f32 ← Prog.lift (.load arg5 (Rect.unit (s := S1x1x64) ![0, 0, 0] S1x1x64.size inb_S1x1x64_S1x1x64_0_0_0).toLoadRect (View.loadsAt_vmem h_S1x1x64))
  let _ : Vec F S12800x64 .f32 ← Prog.lift (.load arg9 (Rect.unit (s := S12800x64) ![0, 0] S12800x64.size inb_S12800x64_S12800x64_0_0).toLoadRect (View.loadsAt_vmem h_S12800x64))
  Prog.lift (.store arg9 (Rect.unit (s := S12800x64) ![0, 0] S12800x64.size inb_S12800x64_S12800x64_0_0) (k0_pay6 v809 v812 v815) Finset.univ (View.stores_vmem_bits_univ h_S12800x64 rfl) (.inl rfl))
  let v822 : Vec F S1x64x128 .f32 ← Prog.lift (.load arg4 (Rect.unit (s := S1x64x128) ![0, 0, 0] S1x64x128.size inb_S1x64x128_S1x64x128_0_0_0).toLoadRect (View.loadsAt_vmem h_S1x64x128))
  let v824 : Vec F S1x1x1 .f32 ← Prog.lift (.load arg6 (Rect.unit (s := S1x1x1) ![0, 0, 0] S1x1x1.size inb_S1x1x1_S1x1x1_0_0_0).toLoadRect (View.loadsAt_vmem h_S1x1x1))
  let v826 : Vec F S128x64 .f32 ← Prog.lift (.load arg10 (Rect.unit (s := S128x64) ![0, 0] S128x64.size inb_S128x64_S128x64_0_0).toLoadRect (View.loadsAt_vmem h_S128x64))
  let z ← stepsP arg7 arg9 (k0_pay7 v822) (k0_pay8 v824) 99 0 (by omega) (k0_pay9 v822 v826)
  let x ← loadX arg9 99 (by omega)
  let _ : Vec F S128x64 .f32 ← Prog.lift (.load arg10 (Rect.unit (s := S128x64) ![0, 0] S128x64.size inb_S128x64_S128x64_0_0).toLoadRect (View.loadsAt_vmem h_S128x64))
  Prog.lift (.store arg10 (Rect.unit (s := S128x64) ![0, 0] S128x64.size inb_S128x64_S128x64_0_0) (k0_pay3 z x) Finset.univ (View.stores_vmem_bits_univ h_S128x64 rfl) (.inl rfl))
  putY arg7 99 (by omega) (k0_pay4 (k0_pay7 v822) (k0_pay8 v824) z x)

/-- What is issued at this point: the block's first segment, and the segment after this one. -/
def preP : PR F PUnit := do
  (if h1 : k0_cond1 i = 1#1 then (do
    clearH arg10
    issuesA i arg2 arg8 arg11 h1) else pure ⟨⟩)
  (if h2 : k0_cond2 i = 1#1 then issuesB i arg2 arg8 arg11 h2 (slotW'_lt i) else pure ⟨⟩)

/-- The body as a sequence of loops. -/
def bodyP : PR F PUnit := do
  preP i arg2 arg8 arg10 arg11
  awaits i arg2 arg8 arg11
  computeP i arg3 arg4 arg5 arg6 arg7 arg8 arg9 arg10

end Cert.KernelIdeal.Hand
-- ==== Proof.ISteps.lean ====
/-
  The transfers of one segment. A segment's hundred rows travel on one semaphore cell, into one slot of the double buffer: the cell's
  counter at zero becomes a batch of a hundred deliveries, each a row of the slot at the source's words together with the source row
  back; issuing walks down the rows still free, and the hundred waits hand all the deliveries back at once.
-/
module

public import proofs.«01_k».proof.Proof.IBody
public import proofs.«01_k».proof.Proof.Gen.KernelIdeal.Launch
public import Idealize.ShloMosaic.Lib.Pipeline.FrameBody
public import Idealize.ShloMosaic.Lib.Batch
public import Idealize.ShloMosaic.Lib.Tactic
public import Idealize.ShloMosaic.Lib.ValueLayout

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The buffers and their parts -/

abbrev xM : Memref sig .tc .hbm S256x1000x256 .f32 := Memref.whole main_arg0
abbrev bufM : Memref sig .tc .vmem S2x100x128x256 .f32 := Memref.whole cc0_scratch0
abbrev xpM : Memref sig .tc .vmem S12800x64 .f32 := Memref.whole cc0_scratch1
abbrev hM : Memref sig .tc .vmem S128x64 .f32 := Memref.whole cc0_scratch2
abbrev XBuf (F : FTy → Type) (c : Dev nD) : Type := Buf (Elt F) ((c : Thread nD τ).loc main_arg0)
abbrev SBuf (F : FTy → Type) (c : Dev nD) : Type := Buf (Elt F) ((c : Thread nD τ).loc cc0_scratch0)

/-- The cell of slot `w`. -/
def cell (w : ℕ) : DmaSem sig := if w = 0 then 10 else 11

/-- Row `t` of slot `w`; the rows of slot `w` from `j` on. -/
def rowS (w t : ℕ) : Finset S2x100x128x256.Idx := Finset.univ.filter fun x => (x 0).val = w ∧ (x 1).val = t
def restS (w j : ℕ) : Finset S2x100x128x256.Idx := Finset.univ.filter fun x => (x 0).val = w ∧ j ≤ (x 1).val
/-- Row `t` of segment `s` of block `b` in the source; its rows from `j` on. -/
def rowX (b s t : ℕ) : Finset S256x1000x256.Idx :=
  Finset.univ.filter fun x => (128 * b ≤ (x 0).val ∧ (x 0).val < 128 * b + 128) ∧ (x 1).val = 100 * s + t
def restX (b s j : ℕ) : Finset S256x1000x256.Idx :=
  Finset.univ.filter fun x => (128 * b ≤ (x 0).val ∧ (x 0).val < 128 * b + 128) ∧ (100 * s + j ≤ (x 1).val ∧ (x 1).val < 100 * s + 100)

theorem restS_step (w j : ℕ) : restS w j = rowS w j ∪ restS w (j + 1) := by
  ext x; simp only [restS, rowS, Finset.mem_union, Finset.mem_filter, Finset.mem_univ, true_and]; omega
theorem restS_disj (w j : ℕ) : Disjoint (rowS w j) (restS w (j + 1)) := by
  rw [Finset.disjoint_left]; intro x; simp only [restS, rowS, Finset.mem_filter, Finset.mem_univ, true_and]; omega
theorem restS_end (w : ℕ) : restS w 100 = ∅ := by
  ext x; have h : (x 1).val < 100 := (x 1).isLt
  simp only [restS, Finset.mem_filter, Finset.mem_univ, true_and, Finset.notMem_empty, iff_false]; omega
theorem restX_step (b s j : ℕ) (hj : j < 100) : restX b s j = rowX b s j ∪ restX b s (j + 1) := by
  ext x; simp only [restX, rowX, Finset.mem_union, Finset.mem_filter, Finset.mem_univ, true_and]; omega
theorem restX_disj (b s j : ℕ) : Disjoint (rowX b s j) (restX b s (j + 1)) := by
  rw [Finset.disjoint_left]; intro x; simp only [restX, rowX, Finset.mem_filter, Finset.mem_univ, true_and]; omega
theorem restX_end (b s : ℕ) : restX b s 100 = ∅ := by
  ext x
  simp only [restX, Finset.mem_filter, Finset.mem_univ, true_and, Finset.notMem_empty, iff_false]; omega

/-- What a slot holds once segment `s` of block `b` has landed: the source's words, row by row. -/
def landed {c : Dev nD} (X : XBuf F c) (b s : ℕ) : SBuf F c := fun x =>
  X (ix3 (⟨(128 * b + (x 2).val) % 256, Nat.mod_lt _ (by decide)⟩ : Fin 256) (⟨(100 * s + (x 1).val) % 1000, Nat.mod_lt _ (by decide)⟩ : Fin 1000)
    (⟨(x 3).val, (x 3).isLt⟩ : Fin 256) : S256x1000x256.Idx)

theorem srcX_inb (b s t : ℕ) (hb : b < 2) (hs : s < 10) (ht : t < 100) :
    ∀ a, (![128 * b, 100 * s + t, 0] : Fin 3 → ℕ) a + S128x1x256.size a ≤ S256x1000x256.size a := by
  intro a; fin_cases a
  · show 128 * b + 128 ≤ 256; omega
  · show 100 * s + t + 1 ≤ 1000; omega
  · show 0 + 256 ≤ 256; omega
theorem semX_inb (w : ℕ) (hw : w < 2) : ∀ a, (![w] : Fin 1 → ℕ) a + S1.size a ≤ S2.size a := by
  intro a; fin_cases a; show w + 1 ≤ 2; omega

abbrev srcAt (b s t : ℕ) (hb : b < 2) (hs : s < 10) (ht : t < 100) := srcM xM ![128 * b, 100 * s + t, 0] (srcX_inb b s t hb hs ht)
abbrev dstAt (w t : ℕ) (hw : w < 2) (ht : t < 100) := dstM bufM ![w, t, 0, 0] (offD_inb w hw t ht)

theorem srcAt_set (b s t : ℕ) (hb : b < 2) (hs : s < 10) (ht : t < 100) : (srcAt b s t hb hs ht).view.set = rowX b s t := by
  show (View.reshape _ _ _).set = _
  rw [View.set_reshape]
  show ((View.whole main_arg0).slice _).set = _
  rw [View.set_slice_whole]
  ext x
  rw [Rect.mem_set_unit]
  have h2 : (x 2).val < 256 := (x 2).isLt
  simp only [rowX, Finset.mem_filter, Finset.mem_univ, true_and]
  constructor
  · intro h
    have a0 := h 0; have a1 := h 1
    change 128 * b ≤ (x 0).val ∧ (x 0).val < 128 * b + 128 at a0
    change 100 * s + t ≤ (x 1).val ∧ (x 1).val < 100 * s + t + 1 at a1
    omega
  · intro h a; fin_cases a
    · show 128 * b ≤ (x 0).val ∧ (x 0).val < 128 * b + 128; omega
    · show 100 * s + t ≤ (x 1).val ∧ (x 1).val < 100 * s + t + 1; omega
    · show 0 ≤ (x 2).val ∧ (x 2).val < 0 + 256; omega

theorem dstAt_set (w t : ℕ) (hw : w < 2) (ht : t < 100) : (dstAt w t hw ht).view.set = rowS w t := by
  show (View.reshape _ _ _).set = _
  rw [View.set_reshape]
  show ((View.whole cc0_scratch0).slice _).set = _
  rw [View.set_slice_whole]
  ext x
  rw [Rect.mem_set_unit]
  have h2 : (x 2).val < 128 := (x 2).isLt
  have h3 : (x 3).val < 256 := (x 3).isLt
  simp only [rowS, Finset.mem_filter, Finset.mem_univ, true_and]
  constructor
  · intro h
    have a0 := h 0; have a1 := h 1
    change w ≤ (x 0).val ∧ (x 0).val < w + 1 at a0
    change t ≤ (x 1).val ∧ (x 1).val < t + 1 at a1
    omega
  · intro h a; fin_cases a
    · show w ≤ (x 0).val ∧ (x 0).val < w + 1; omega
    · show t ≤ (x 1).val ∧ (x 1).val < t + 1; omega
    · show 0 ≤ (x 2).val ∧ (x 2).val < 0 + 128; omega
    · show 0 ≤ (x 3).val ∧ (x 3).val < 0 + 256; omega

theorem reshapeEquiv_ix2_a1b {a b : ℕ} (h : (⟨2, ![a, b]⟩ : Shape).numel = (⟨3, ![a, 1, b]⟩ : Shape).numel)
    (x : Fin a) (y : Fin b) : Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

theorem srcAt_emb (b s t : ℕ) (hb : b < 2) (hs : s < 10) (ht : t < 100) (r : Fin 128) (d : Fin 256) :
    (srcAt b s t hb hs ht).view.emb (ix2 r d)
      = (ix3 (⟨128 * b + r.val, by have := r.isLt; omega⟩ : Fin 256) (⟨100 * s + t, by omega⟩ : Fin 1000) d : S256x1000x256.Idx) := by
  show (Rect.unit (s := S256x1000x256) ![128 * b, 100 * s + t, 0] S128x1x256.size _).emb (Shape.reshapeEquiv _ (ix2 r d)) = _
  rw [reshapeEquiv_ix2_a1b]
  funext a; fin_cases a <;> apply Fin.ext
  · show 128 * b + 1 * r.val = _; simp [ix3]
  · show 100 * s + t + 1 * 0 = _; simp [ix3]
  · show 0 + 1 * d.val = _; simp [ix3]

theorem dstAt_emb (w t : ℕ) (hw : w < 2) (ht : t < 100) (r : Fin 128) (d : Fin 256) :
    (dstAt w t hw ht).view.emb (ix2 r d) = (ix4 (⟨w, hw⟩ : Fin 2) (⟨t, ht⟩ : Fin 100) r d : S2x100x128x256.Idx) := by
  show (Rect.unit (s := S2x100x128x256) ![w, t, 0, 0] S1x1x128x256.size _).emb (Shape.reshapeEquiv _ (ix2 r d)) = _
  rw [reshapeEquiv_ix2_11ab]
  funext a; fin_cases a <;> apply Fin.ext
  · show w + 1 * 0 = _; simp [ix4]
  · show t + 1 * 0 = _; simp [ix4]
  · show 0 + 1 * r.val = _; simp [ix4]
  · show 0 + 1 * d.val = _; simp [ix4]

/-- A landed row holds the source's words. -/
theorem write_row (c : Dev nD) (X : XBuf F c) (f : SBuf F c) (b s w t : ℕ) (hb : b < 2) (hs : s < 10) (hw : w < 2) (ht : t < 100)
    (x : S2x100x128x256.Idx) (hx : x ∈ rowS w t) :
    (dstAt w t hw ht).view.write (Elt F) f (ReadAs.same.apply ((srcAt b s t hb hs ht).view.read (Elt F) X)) Finset.univ x = landed X b s x := by
  simp only [rowS, Finset.mem_filter, Finset.mem_univ, true_and] at hx
  have h2 : (x 2).val < 128 := (x 2).isLt
  have h3 : (x 3).val < 256 := (x 3).isLt
  have hxe : x = (dstAt w t hw ht).view.emb (ix2 (⟨(x 2).val, h2⟩ : Fin 128) (⟨(x 3).val, h3⟩ : Fin 256)) := by
    refine Eq.trans ?_ (dstAt_emb w t hw ht _ _).symm
    funext a; fin_cases a <;> apply Fin.ext
    · exact hx.1
    · exact hx.2
    · rfl
    · rfl
  conv_lhs => rw [hxe]
  refine (View.write_emb_of_mem _ _ (Finset.mem_univ _)).trans ?_
  show X ((srcAt b s t hb hs ht).view.emb _) = _
  refine (congrArg X (srcAt_emb b s t hb hs ht _ _)).trans ?_
  unfold landed
  congr 1
  funext a; fin_cases a <;> apply Fin.ext
  · show 128 * b + (x 2).val = (128 * b + (x 2).val) % 256; omega
  · show 100 * s + t = (100 * s + (x 1).val) % 1000; omega
  · rfl

/-! ## The batch of a segment -/

theorem semAt_eq (w : ℕ) (hw : w < 2) : (semM cc0_scratch3 ![w] (semX_inb w hw)).sem = cell w := by
  apply Fin.ext
  show 10 + (S2.rowMajor ((Rect.unit (s := S2) ![w] S1.size (semX_inb w hw)).emb (Shape.reshapeEquiv _ _))).val = _
  rw [Shape.rowMajor_val_one]
  show 10 + (w + 1 * (Shape.reshapeEquiv (s' := S_) (s := S1) _ _ 0).val) = _
  have h0 : ∀ y : S1.Idx, (y 0).val = 0 := fun y => by have := (y 0).isLt; change (y 0).val < 1 at this; omega
  rw [h0]
  unfold cell
  interval_cases w <;> rfl

/-- What the transfer of row `t` brings back: its row of the slot at the source's words, and the source row. -/
def deliv (c : Dev nD) (X : XBuf F c) (b s w : ℕ) (t : Fin 100) : sProp 𝕄 :=
  iprop((((c : Thread nD τ).loc cc0_scratch0) ↦[rowS w t.val]{fullShare} (landed X b s : SBuf F c))
    ∗ (((c : Thread nD τ).loc main_arg0) ↦[rowX b s t.val]{fullShare} X))
instance deliv_storable (c : Dev nD) (X : XBuf F c) (b s w : ℕ) (t : Fin 100) :
    Storable (upEmb : UEmb _ 𝕄) (deliv c X b s w t) := by
  unfold deliv; infer_instance

/-- The batch of segment `s` of block `b` on slot `w`'s cell: `j` rows issued, `u` units consumed. -/
abbrev Fly (c : Dev nD) (X : XBuf F c) (b s w j u : ℕ) : sProp 𝕄 :=
  Transfers.Batch (countersEmb (U := Pipeline.UD sig nD τ)) (c : Thread nD τ) (.dma (cell w)) () 4096 (deliv c X b s w) j u

/-- The program of one issue and of one wait, at a row given by its numbers. -/
abbrev issueAt (b s w : ℕ) (hb : b < 2) (hs : s < 10) (hw : w < 2) (t : ℕ) (ht : t < 100) : PR F PUnit :=
  issue xM bufM cc0_scratch3 ![128 * b, 100 * s + t, 0] (srcX_inb b s t hb hs ht) ![w, t, 0, 0] (offD_inb w hw t ht) ![w] (semX_inb w hw)
abbrev awaitAt (b s w : ℕ) (hb : b < 2) (hs : s < 10) (hw : w < 2) (t : ℕ) (ht : t < 100) : PR F PUnit :=
  await xM bufM cc0_scratch3 ![128 * b, 100 * s + t, 0] (srcX_inb b s t hb hs ht) ![w, t, 0, 0] (offD_inb w hw t ht) ![w] (semX_inb w hw)

set_option maxHeartbeats 1000000 in
/-- One issue: the next free row of the slot and the next source row join the batch. -/
theorem wp_issueAt {α : Type} (c : Dev nD) (X : XBuf F c) (f : SBuf F c) (b s w : ℕ) (hb : b < 2) (hs : s < 10) (hw : w < 2) (t : ℕ) (ht : t < 100)
    (k : PUnit → PR F α) (Q : α → sProp 𝕄) :
    iprop((((c : Thread nD τ).loc cc0_scratch0) ↦[restS w t]{fullShare} f) ∗ (((c : Thread nD τ).loc main_arg0) ↦[restX b s t]{fullShare} X)
        ∗ Fly c X b s w t 0
        ∗ (iprop((((c : Thread nD τ).loc cc0_scratch0) ↦[restS w (t + 1)]{fullShare} f) ∗ (((c : Thread nD τ).loc main_arg0) ↦[restX b s (t + 1)]{fullShare} X)
            ∗ Fly c X b s w (t + 1) 0) -∗ wp frame (wpE (defs₀ (F := F)) Variants.none c none) Set.univ (k ⟨⟩) Q))
      ⊢ wp frame (wpE (defs₀ (F := F)) Variants.none c none) Set.univ (issueAt b s w hb hs hw t ht >>= k) Q := by
  rw [restS_step w t, restX_step b s t ht]
  iintro ⟨HS, HX, HB, Hk⟩
  ihave HS' := (pointsTo_union (restS_disj w t)).1 $$ HS
  ihave HX' := (pointsTo_union (restX_disj b s t)).1 $$ HX
  icases HS' with ⟨HS1, HS2⟩
  icases HX' with ⟨HX1, HX2⟩
  iapply (Transfers.wp_dmaBatch (countersEmb (U := Pipeline.UD sig nD τ)) Variants.none (c : Thread nD τ) none (defs := defs₀ (F := F))
    (src := srcAt b s t hb hs ht) (via := ReadAs.same) (dst := dstAt w t hw ht) (sm := .dma (semM cc0_scratch3 ![w] (semX_inb w hw)).sem)
    (q := fullShare) (fs := X) (Sd := rowS w t) (fd := f) (D := deliv c X b s w) (j := t) (u := 0) () 4096 rfl (dstAt_set w t hw ht).subset ht (Nat.zero_le _)
    (by
      unfold deliv
      refine BIClass.sep_mono ?_ ?_
      · exact (pointsTo_congr fun x hx => write_row c X f b s w t hb hs hw ht x hx).le
      · rw [srcAt_set])) $$ [HX1 HS1 HB]
  · isplitl [HX1]; · rw [srcAt_set]; iexact HX1
    isplitl [HS1]; · iexact HS1
    unfold Fly; rw [semAt_eq w hw]; iexact HB
  iintro HB
  iapply Hk
  isplitl [HS2]; · iexact HS2
  isplitl [HX2]; · iexact HX2
  unfold Fly; rw [semAt_eq w hw]; iexact HB

/-- One wait that is not the last consumes one row's worth. -/
theorem wp_awaitAt {α : Type} (c : Dev nD) (X : XBuf F c) (b s w : ℕ) (hb : b < 2) (hs : s < 10) (hw : w < 2) (t : ℕ) (ht : t < 99)
    (W : Waits sig Unit) (k : PUnit → PR F α) (Q : α → sProp 𝕄) :
    iprop(Fly c X b s w 100 (4096 * t) ∗ owes (c : Thread nD τ) 0 W
        ∗ (iprop(∃ W', Fly c X b s w 100 (4096 * (t + 1)) ∗ owes (c : Thread nD τ) 0 W') -∗ wp frame (wpE (defs₀ (F := F)) Variants.none c none) Set.univ (k ⟨⟩) Q))
      ⊢ wp frame (wpE (defs₀ (F := F)) Variants.none c none) Set.univ (awaitAt b s w hb hs hw t (by omega) >>= k) Q := by
  iintro ⟨HB, HW, Hk⟩
  iapply (Transfers.wp_waitBatch (countersEmb (U := Pipeline.UD sig nD τ)) Variants.none (c : Thread nD τ) none (defs := defs₀ (F := F))
    (srcw := srcAt b s t hb hs (by omega)) (dstw := dstAt w t hw (by omega)) (sem := (semM cc0_scratch3 ![w] (semX_inb w hw)).sem)
    () (N := 4096) rfl (n := 100) (D := deliv c X b s w) (u := 4096 * t) (by omega)) $$ [HB HW]
  · isplitl [HB]; · unfold Fly; rw [semAt_eq w hw]; iexact HB
    iexact HW
  iintro ⟨HB, HW⟩
  iapply Hk
  iexists _
  isplitl [HB]; · unfold Fly; rw [semAt_eq w hw]; iexact HB
  iexact HW

/-- The last wait hands back every delivery and the cell at zero. -/
theorem wp_awaitLast {α : Type} (c : Dev nD) (X : XBuf F c) (b s w : ℕ) (hb : b < 2) (hs : s < 10) (hw : w < 2)
    (W : Waits sig Unit) (k : PUnit → PR F α) (Q : α → sProp 𝕄) :
    iprop(Fly c X b s w 100 (4096 * 99) ∗ owes (c : Thread nD τ) 0 W
        ∗ (iprop(∃ W', bigSep Finset.univ (deliv c X b s w) ∗ semVal ((c : Thread nD τ), SemLoc.dma (cell w)) 0 ∗ owes (c : Thread nD τ) 0 W') -∗ wp frame (wpE (defs₀ (F := F)) Variants.none c none) Set.univ (k ⟨⟩) Q))
      ⊢ wp frame (wpE (defs₀ (F := F)) Variants.none c none) Set.univ (awaitAt b s w hb hs hw 99 (by omega) >>= k) Q := by
  iintro ⟨HB, HW, Hk⟩
  iapply (Transfers.wp_waitBatchLast (countersEmb (U := Pipeline.UD sig nD τ)) Variants.none (c : Thread nD τ) none (defs := defs₀ (F := F))
    (srcw := srcAt b s 99 hb hs (by omega)) (dstw := dstAt w 99 hw (by omega)) (sem := (semM cc0_scratch3 ![w] (semX_inb w hw)).sem)
    () (N := 4096) rfl (by omega) (n := 100) (D := deliv c X b s w) (u := 4096 * 99) (by omega)) $$ [HB HW]
  · isplitl [HB]; · unfold Fly; rw [semAt_eq w hw]; iexact HB
    iexact HW
  iintro ⟨HD, HV, HW⟩
  iapply Hk
  iexists _
  isplitl [HD]; · iexact HD
  isplitl [HV]; · rw [semAt_eq w hw]; iexact HV
  iexact HW

/-! ## The three loops -/

theorem wp_issues {α : Type} (c : Dev nD) (X : XBuf F c) (f : SBuf F c) (b s w : ℕ) (hb : b < 2) (hs : s < 10) (hw : w < 2)
    (k : PUnit → PR F α) (Q : α → sProp 𝕄) : ∀ (n t : ℕ) (h : t + n ≤ 100) (h' : t + n = 100),
    iprop((((c : Thread nD τ).loc cc0_scratch0) ↦[restS w t]{fullShare} f) ∗ (((c : Thread nD τ).loc main_arg0) ↦[restX b s t]{fullShare} X)
        ∗ Fly c X b s w t 0
        ∗ (Fly c X b s w 100 0 -∗ wp frame (wpE (defs₀ (F := F)) Variants.none c none) Set.univ (k ⟨⟩) Q))
      ⊢ wp frame (wpE (defs₀ (F := F)) Variants.none c none) Set.univ (rows (issueAt b s w hb hs hw) n t h >>= k) Q
  | 0, t, h, h' => by
    obtain rfl : t = 100 := by omega
    iintro ⟨-, -, HB, Hk⟩
    iapply Hk; iexact HB
  | n + 1, t, h, h' => by
    show _ ⊢ wp frame (wpE (defs₀ (F := F)) Variants.none c none) Set.univ ((issueAt b s w hb hs hw t _ >>= fun _ => rows (issueAt b s w hb hs hw) n (t + 1) (by omega)) >>= k) Q
    rw [bind_assoc]
    iintro ⟨HS, HX, HB, Hk⟩
    have ht : t < 100 := by omega
    iapply (wp_issueAt c X f b s w hb hs hw t ht)
    isplitl [HS]; · iexact HS
    isplitl [HX]; · iexact HX
    isplitl [HB]; · iexact HB
    iintro ⟨HS, HX, HB⟩
    have h1 : (t + 1) + n ≤ 100 := by omega
    have h2 : (t + 1) + n = 100 := by omega
    iapply (wp_issues c X f b s w hb hs hw k Q n (t + 1) h1 h2)
    isplitl [HS]; · iexact HS
    isplitl [HX]; · iexact HX
    isplitl [HB]; · iexact HB
    iexact Hk

theorem wp_awaits {α : Type} (c : Dev nD) (X : XBuf F c) (b s w : ℕ) (hb : b < 2) (hs : s < 10) (hw : w < 2)
    (k : PUnit → PR F α) (Q : α → sProp 𝕄) : ∀ (n t : ℕ) (h : t + (n + 1) ≤ 100) (h' : t + (n + 1) = 100) (W : Waits sig Unit),
    iprop(Fly c X b s w 100 (4096 * t) ∗ owes (c : Thread nD τ) 0 W
        ∗ (iprop(∃ W', bigSep Finset.univ (deliv c X b s w) ∗ semVal ((c : Thread nD τ), SemLoc.dma (cell w)) 0 ∗ owes (c : Thread nD τ) 0 W') -∗ wp frame (wpE (defs₀ (F := F)) Variants.none c none) Set.univ (k ⟨⟩) Q))
      ⊢ wp frame (wpE (defs₀ (F := F)) Variants.none c none) Set.univ (rows (awaitAt b s w hb hs hw) (n + 1) t h >>= k) Q
  | 0, t, h, h', W => by
    obtain rfl : t = 99 := by omega
    exact wp_awaitLast c X b s w hb hs hw W k Q
  | n + 1, t, h, h', W => by
    show _ ⊢ wp frame (wpE (defs₀ (F := F)) Variants.none c none) Set.univ ((awaitAt b s w hb hs hw t _ >>= fun _ => rows (awaitAt b s w hb hs hw) (n + 1) (t + 1) (by omega)) >>= k) Q
    rw [bind_assoc]
    iintro ⟨HB, HW, Hk⟩
    have ht : t < 99 := by omega
    iapply (wp_awaitAt c X b s w hb hs hw t ht)
    isplitl [HB]; · iexact HB
    isplitl [HW]; · iexact HW
    iintro ⟨%W', HB, HW⟩
    have h1 : (t + 1) + (n + 1) ≤ 100 := by omega
    have h2 : (t + 1) + (n + 1) = 100 := by omega
    iapply (wp_awaits c X b s w hb hs hw k Q n (t + 1) h1 h2 W')
    isplitl [HB]; · iexact HB
    isplitl [HW]; · iexact HW
    iexact Hk

/-- The deliveries together: the slot whole at the landed contents, and the source rows back. -/
theorem deliv_collect (c : Dev nD) (X : XBuf F c) (b s w : ℕ) : ∀ (n t : ℕ) (h : t + n = 100),
    bigSep (Transfers.pending t) (deliv c X b s w)
      ⊢ iprop((((c : Thread nD τ).loc cc0_scratch0) ↦[restS w t]{fullShare} (landed X b s : SBuf F c))
          ∗ (((c : Thread nD τ).loc main_arg0) ↦[restX b s t]{fullShare} X))
  | 0, t, h => by
    obtain rfl : t = 100 := by omega
    rw [restS_end, restX_end, pointsTo_empty, pointsTo_empty]
    iintro -
    isplitl []
    · iempintro
    · iempintro
  | n + 1, t, h => by
    rw [Transfers.bigSep_pending_step _ t (by omega), restS_step w t, restX_step b s t (by omega)]
    iintro ⟨H1, H2⟩
    ihave H2' := (deliv_collect c X b s w n (t + 1) (by omega)) $$ H2
    unfold deliv
    icases H1 with ⟨HS1, HX1⟩
    icases H2' with ⟨HS2, HX2⟩
    isplitl [HS1 HS2]
    · iapply (pointsTo_union (restS_disj w t)).2
      isplitl [HS1]; · iexact HS1
      iexact HS2
    · iapply (pointsTo_union (restX_disj b s t)).2
      isplitl [HX1]; · iexact HX1
      iexact HX2

end Cert.KernelIdeal.Hand
-- ==== Proof.ICompute.lean ====
/-
  The computation of one grid point: the projection of the landed segment, then the recurrence over its hundred rows, each step
  storing one column of the output block. `zAt` is the recurrence's state, `colY` the columns stored, `hNext` the hidden state kept.
-/
module

public import proofs.«01_k».proof.Proof.ISteps

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The values -/

/-- Segment `s` of block `b`, as the body reads it out of its slot. -/
def segV {c : Dev nD} (X : XBuf F c) (b s : ℕ) : Vec F S1x100x128x256 .f32 := fun y =>
  X (ix3 (⟨(128 * b + (y 2).val) % 256, Nat.mod_lt _ (by decide)⟩ : Fin 256) (⟨(100 * s + (y 1).val) % 1000, Nat.mod_lt _ (by decide)⟩ : Fin 1000)
    (⟨(y 3).val, (y 3).isLt⟩ : Fin 256) : S256x1000x256.Idx)
/-- Row `t` of the projected segment. -/
def xrow (xp : Vec F S12800x64 .f32) (t : ℕ) : Vec F S128x64 .f32 := fun y =>
  xp (ix2 (⟨(128 * t + (y 0).val) % 12800, Nat.mod_lt _ (by decide)⟩ : Fin 12800) (⟨(y 1).val, (y 1).isLt⟩ : Fin 64) : S12800x64.Idx)
/-- The recurrence's state before step `t`. -/
def zAt (wcv : Vec F S1x64x128 .f32) (xp : Vec F S12800x64 .f32) (h : Vec F S128x64 .f32) : ℕ → FVec F S128x128 .f32
  | 0 => k0_pay9 wcv h
  | t + 1 => k0_pay10 (k0_pay7 wcv) (zAt wcv xp h t) (xrow xp t)
/-- The column stored at step `t`. -/
def colY (wcv : Vec F S1x64x128 .f32) (fcv : Vec F S1x1x1 .f32) (xp : Vec F S12800x64 .f32) (h : Vec F S128x64 .f32) (t : ℕ) : FVec F S1x128x1 .f32 :=
  if t < 99 then k0_pay20 (k0_pay8 fcv) (zAt wcv xp h (t + 1)) else k0_pay4 (k0_pay7 wcv) (k0_pay8 fcv) (zAt wcv xp h 99) (xrow xp 99)
/-- The output block. -/
def outY (wcv : Vec F S1x64x128 .f32) (fcv : Vec F S1x1x1 .f32) (xp : Vec F S12800x64 .f32) (h : Vec F S128x64 .f32) : Vec F S1x128x100 .f32 := fun y =>
  colY wcv fcv xp h (y 2).val (ix3 (⟨0, Nat.one_pos⟩ : Fin 1) (⟨(y 1).val, (y 1).isLt⟩ : Fin 128) (⟨0, Nat.one_pos⟩ : Fin 1) : S1x128x1.Idx)
/-- The hidden state after the segment. -/
def hNext (wcv : Vec F S1x64x128 .f32) (xp : Vec F S12800x64 .f32) (h : Vec F S128x64 .f32) : FVec F S128x64 .f32 :=
  k0_pay3 (zAt wcv xp h 99) (xrow xp 99)

/-! ## Reading and writing through rectangles -/

/-- A load of a whole memref through the rectangle at the origin reads it whole. -/
theorem readAt_origin {κ : Kind} {sp : Space} {s : Shape} {e : EltTy} (v : View sig κ sp s e) (off : Fin s.rank → ℕ) (h0 : ∀ a, off a = 0)
    (inb : ∀ a, off a + s.size a ≤ s.size a) (f : v.ty.Contents (Elt F)) :
    v.readAt (Elt F) (Rect.unit (s := s) off s.size inb).toLoadRect f = v.read (Elt F) f := by
  funext y
  show v.read (Elt F) f ((Rect.unit (s := s) off s.size inb).emb y) = v.read (Elt F) f y
  congr 1
  funext a; apply Fin.ext
  show off a + 1 * (y a).val = (y a).val
  rw [h0]; omega

theorem readAt_seg (c : Dev nD) (X : XBuf F c) (b s w : ℕ) (off : Fin 4 → ℕ) (hoff : off = ![w, 0, 0, 0])
    (inb : ∀ a, off a + S1x100x128x256.size a ≤ S2x100x128x256.size a) :
    bufM.view.readAt (Elt F) (Rect.unit (s := S2x100x128x256) off S1x100x128x256.size inb).toLoadRect (landed X b s : SBuf F c) = segV X b s := by
  subst hoff
  funext y
  show landed X b s ((Rect.unit (s := S2x100x128x256) ![w, 0, 0, 0] S1x100x128x256.size inb).emb y) = _
  unfold landed segV
  congr 1
  funext a; fin_cases a <;> apply Fin.ext
  · show (128 * b + (0 + 1 * (y 2).val)) % 256 = (128 * b + (y 2).val) % 256; simp
  · show (100 * s + (0 + 1 * (y 1).val)) % 1000 = (100 * s + (y 1).val) % 1000; simp
  · show 0 + 1 * (y 3).val = (y 3).val; simp

theorem readAt_xrow (xp : Vec F S12800x64 .f32) (t : ℕ) (ht : t < 100) :
    xpM.view.readAt (Elt F) (Rect.unit (s := S12800x64) ![128 * t, 0] S128x64.size (rowX_inb t ht)).toLoadRect xp = xrow xp t := by
  funext y
  show xp ((Rect.unit (s := S12800x64) ![128 * t, 0] S128x64.size (rowX_inb t ht)).emb y) = _
  unfold xrow
  have h0 : (y 0).val < 128 := (y 0).isLt
  congr 1
  funext a; fin_cases a <;> apply Fin.ext
  · show 128 * t + 1 * (y 0).val = (128 * t + (y 0).val) % 12800; omega
  · show 0 + 1 * (y 1).val = (y 1).val; simp

/-- The output's contents once the columns before `t` are stored. -/
def Cols (m7 : Memref sig .tc .vmem S1x128x100 .f32) (Y : Vec F S1x128x100 .f32) (t : ℕ) (f : m7.view.ty.Contents (Elt F)) : Prop :=
  ∀ y : S1x128x100.Idx, (y 2).val < t → m7.view.read (Elt F) f y = Y y

theorem Cols_step (m7 : Memref sig .tc .vmem S1x128x100 .f32) (Y : Vec F S1x128x100 .f32) (t : ℕ) (ht : t < 100) (f : m7.view.ty.Contents (Elt F))
    (w : FVec F S1x128x1 .f32)
    (hw : ∀ y : S1x128x100.Idx, (y 2).val = t → Y y = w (ix3 (⟨0, Nat.one_pos⟩ : Fin 1) (⟨(y 1).val, (y 1).isLt⟩ : Fin 128) (⟨0, Nat.one_pos⟩ : Fin 1) : S1x128x1.Idx))
    (h : Cols m7 Y t f) :
    Cols m7 Y (t + 1) ((m7.access (Rect.unit (s := S1x128x100) ![0, 0, t] S1x128x1.size (colY_inb t ht))).write (Elt F) f w Finset.univ) := by
  intro y hy
  have h0 : (y 0).val < 1 := (y 0).isLt
  have h1 : (y 1).val < 128 := (y 1).isLt
  by_cases he : (y 2).val = t
  · have hye : y = (Rect.unit (s := S1x128x100) ![0, 0, t] S1x128x1.size (colY_inb t ht)).emb
        (ix3 (⟨0, Nat.one_pos⟩ : Fin 1) (⟨(y 1).val, (y 1).isLt⟩ : Fin 128) (⟨0, Nat.one_pos⟩ : Fin 1) : S1x128x1.Idx) := by
      funext a; fin_cases a <;> apply Fin.ext
      · show (y 0).val = 0 + 1 * 0; omega
      · show (y 1).val = 0 + 1 * (y 1).val; omega
      · show (y 2).val = t + 1 * 0; omega
    rw [hw y he]
    conv_lhs => rw [hye]
    exact View.read_slice_write_emb _ _ _ (Finset.mem_univ _)
  · rw [← h y (by omega)]
    refine View.read_slice_write_of_not_mem _ _ _ _ ?_
    intro hm
    obtain ⟨x, -, hx⟩ := Finset.mem_map.mp hm
    have hx2 : (x 2).val < 1 := (x 2).isLt
    apply he
    rw [← hx]
    show t + 1 * (x 2).val = t
    omega

/-- A store of a whole memref through the rectangle at the origin leaves what was stored. -/
theorem read_write_origin {κ : Kind} {sp : Space} {s : Shape} {e : EltTy} (v : View sig κ sp s e) (off : Fin s.rank → ℕ) (h0 : ∀ a, off a = 0)
    (inb : ∀ a, off a + s.size a ≤ s.size a) (f : v.ty.Contents (Elt F)) (w : s.Idx → Elt F e) :
    v.read (Elt F) ((v.slice (Rect.unit (s := s) off s.size inb)).write (Elt F) f w Finset.univ) = w := by
  funext y
  have hy : (Rect.unit (s := s) off s.size inb).emb y = y := by
    funext a; apply Fin.ext
    show off a + 1 * (y a).val = (y a).val
    rw [h0]; omega
  conv_lhs => rw [← hy]
  exact View.read_slice_write_emb _ _ _ (Finset.mem_univ y)

/-! ## The steps -/

theorem wp_loadX {α : Type} (c : Dev nD) (xp : Vec F S12800x64 .f32) (t : ℕ) (ht : t < 100)
    (k : Vec F S128x64 .f32 → PR F α) (Q : α → sProp 𝕄) :
    iprop((((c : Thread nD τ).loc cc0_scratch1) ↦{fullShare} xp)
      ∗ ((((c : Thread nD τ).loc cc0_scratch1) ↦{fullShare} xp)
        -∗ wp frame (wpE (defs₀ (F := F)) Variants.none c none) Set.univ (k (xrow xp t)) Q))
      ⊢ wp frame (wpE (defs₀ (F := F)) Variants.none c none) Set.univ (loadX xpM t ht >>= k) Q := by
  rw [← readAt_xrow xp t ht]
  iintro ⟨H, Hk⟩
  unfold loadX
  iapply (wp_load Variants.none (defs := defs₀ (F := F)) (c : Thread nD τ) none Set.univ
      (m := xpM) (S := Finset.univ) (Finset.subset_univ _)) $$ H
  iexact Hk

theorem access_subset (m7 : Memref sig .tc .vmem S1x128x100 .f32) (r : Rect S1x128x100) (M : Finset r.shape.Idx) :
    (m7.access r).setOn M ⊆ m7.view.set :=
  ((m7.access r).setOn_subset_set M).trans (by rw [View.set_slice]; exact View.setOn_subset_set _ _)

theorem wp_putY {α : Type} (c : Dev nD) (m7 : Memref sig .tc .vmem S1x128x100 .f32) (Y : Vec F S1x128x100 .f32) (t : ℕ) (ht : t < 100)
    (w : FVec F S1x128x1 .f32)
    (hw : ∀ y : S1x128x100.Idx, (y 2).val = t → Y y = w (ix3 (⟨0, Nat.one_pos⟩ : Fin 1) (⟨(y 1).val, (y 1).isLt⟩ : Fin 128) (⟨0, Nat.one_pos⟩ : Fin 1) : S1x128x1.Idx))
    (k : PUnit → PR F α) (Q : α → sProp 𝕄) :
    iprop((∃ f, ⌜Cols m7 Y t f⌝ ∗ ((m7.view.loc (c : Thread nD τ)) ↦[m7.view.set]{fullShare} f))
      ∗ ((∃ f, ⌜Cols m7 Y (t + 1) f⌝ ∗ ((m7.view.loc (c : Thread nD τ)) ↦[m7.view.set]{fullShare} f))
        -∗ wp frame (wpE (defs₀ (F := F)) Variants.none c none) Set.univ (k ⟨⟩) Q))
      ⊢ wp frame (wpE (defs₀ (F := F)) Variants.none c none) Set.univ (putY m7 t ht w >>= k) Q := by
  iintro ⟨⟨%f, %hf, H⟩, Hk⟩
  unfold putY
  iapply (wp_load Variants.none (defs := defs₀ (F := F)) (c : Thread nD τ) none Set.univ
      (m := m7) (S := m7.view.set) (View.setOn_subset_set _ _)) $$ H
  iintro H
  iapply (wp_store Variants.none (defs := defs₀ (F := F)) (c : Thread nD τ) none Set.univ
      (m := m7) (r := Rect.unit (s := S1x128x100) ![0, 0, t] S1x128x1.size (colY_inb t ht)) (w := w) (Mk := Finset.univ) (f := f)
      (S := m7.view.set) (access_subset m7 _ _)) $$ H
  iintro H
  iapply Hk
  iexists _
  isplitr
  · ipureintro; exact Cols_step m7 Y t ht f w hw hf
  iexact H

theorem outY_col (wcv : Vec F S1x64x128 .f32) (fcv : Vec F S1x1x1 .f32) (xp : Vec F S12800x64 .f32) (h : Vec F S128x64 .f32) (t : ℕ)
    (y : S1x128x100.Idx) (hy : (y 2).val = t) :
    outY wcv fcv xp h y = colY wcv fcv xp h t (ix3 (⟨0, Nat.one_pos⟩ : Fin 1) (⟨(y 1).val, (y 1).isLt⟩ : Fin 128) (⟨0, Nat.one_pos⟩ : Fin 1) : S1x128x1.Idx) := by
  subst hy; rfl

theorem wp_steps {α : Type} (c : Dev nD) (m7 : Memref sig .tc .vmem S1x128x100 .f32) (wcv : Vec F S1x64x128 .f32) (fcv : Vec F S1x1x1 .f32)
    (xp : Vec F S12800x64 .f32) (h0 : Vec F S128x64 .f32) (k : FVec F S128x128 .f32 → PR F α) (Q : α → sProp 𝕄) :
    ∀ (n t : ℕ) (h : t + n ≤ 100) (h' : t + n = 99),
    iprop((((c : Thread nD τ).loc cc0_scratch1) ↦{fullShare} xp)
      ∗ (∃ f, ⌜Cols m7 (outY wcv fcv xp h0) t f⌝ ∗ ((m7.view.loc (c : Thread nD τ)) ↦[m7.view.set]{fullShare} f))
      ∗ (iprop((((c : Thread nD τ).loc cc0_scratch1) ↦{fullShare} xp)
          ∗ (∃ f, ⌜Cols m7 (outY wcv fcv xp h0) 99 f⌝ ∗ ((m7.view.loc (c : Thread nD τ)) ↦[m7.view.set]{fullShare} f)))
        -∗ wp frame (wpE (defs₀ (F := F)) Variants.none c none) Set.univ (k (zAt wcv xp h0 99)) Q))
      ⊢ wp frame (wpE (defs₀ (F := F)) Variants.none c none) Set.univ (stepsP m7 xpM (k0_pay7 wcv) (k0_pay8 fcv) n t h (zAt wcv xp h0 t) >>= k) Q
  | 0, t, h, h' => by
    obtain rfl : t = 99 := by omega
    show _ ⊢ wp frame (wpE (defs₀ (F := F)) Variants.none c none) Set.univ (k (zAt wcv xp h0 99)) Q
    iintro ⟨HX, HY, Hk⟩
    iapply Hk
    isplitl [HX]; · iexact HX
    iexact HY
  | n + 1, t, h, h' => by
    have ht : t < 100 := by omega
    have ht' : t < 99 := by omega
    show _ ⊢ wp frame (wpE (defs₀ (F := F)) Variants.none c none) Set.univ ((loadX xpM t ht >>= fun x => putY m7 t ht (k0_pay20 (k0_pay8 fcv) (k0_pay10 (k0_pay7 wcv) (zAt wcv xp h0 t) x)) >>= fun _ =>
      stepsP m7 xpM (k0_pay7 wcv) (k0_pay8 fcv) n (t + 1) (by omega) (k0_pay10 (k0_pay7 wcv) (zAt wcv xp h0 t) x)) >>= k) Q
    rw [bind_assoc]
    iintro ⟨HX, HY, Hk⟩
    iapply (wp_loadX c xp t ht)
    isplitl [HX]; · iexact HX
    iintro HX
    rw [bind_assoc]
    have hw : ∀ y : S1x128x100.Idx, (y 2).val = t → outY wcv fcv xp h0 y
        = k0_pay20 (k0_pay8 fcv) (k0_pay10 (k0_pay7 wcv) (zAt wcv xp h0 t) (xrow xp t)) (ix3 (⟨0, Nat.one_pos⟩ : Fin 1) (⟨(y 1).val, (y 1).isLt⟩ : Fin 128) (⟨0, Nat.one_pos⟩ : Fin 1) : S1x128x1.Idx) := by
      intro y hy
      rw [outY_col wcv fcv xp h0 t y hy, colY, if_pos ht']; rfl
    iapply (wp_putY c m7 (outY wcv fcv xp h0) t ht _ hw)
    isplitl [HY]; · iexact HY
    iintro HY
    have h1 : (t + 1) + n ≤ 100 := by omega
    have h2 : (t + 1) + n = 99 := by omega
    iapply (wp_steps c m7 wcv fcv xp h0 k Q n (t + 1) h1 h2)
    isplitl [HX]; · iexact HX
    isplitl [HY]; · iexact HY
    iexact Hk

/-- The hidden state is cleared. -/
theorem wp_clearH {α : Type} (c : Dev nD) (h : Vec F S128x64 .f32) (k : PUnit → PR F α) (Q : α → sProp 𝕄) :
    iprop((((c : Thread nD τ).loc cc0_scratch2) ↦{fullShare} h)
      ∗ ((((c : Thread nD τ).loc cc0_scratch2) ↦{fullShare} (k0_pay5 : FVec F S128x64 .f32))
        -∗ wp frame (wpE (defs₀ (F := F)) Variants.none c none) Set.univ (k ⟨⟩) Q))
      ⊢ wp frame (wpE (defs₀ (F := F)) Variants.none c none) Set.univ (clearH hM >>= k) Q := by
  iintro ⟨H, Hk⟩
  unfold clearH
  iapply (wp_load Variants.none (defs := defs₀ (F := F)) (c : Thread nD τ) none Set.univ
      (m := hM) (S := Finset.univ) (Finset.subset_univ _)) $$ H
  iintro H
  iapply (wp_store Variants.none (defs := defs₀ (F := F)) (c : Thread nD τ) none Set.univ
      (m := hM) (r := Rect.unit (s := S128x64) ![0, 0] S128x64.size inb_S128x64_S128x64_0_0) (w := (k0_pay5 : FVec F S128x64 .f32)) (Mk := Finset.univ) (f := h)
      (S := Finset.univ) (Finset.subset_univ _)) $$ H
  have e : (hM.access (Rect.unit (s := S128x64) ![0, 0] S128x64.size inb_S128x64_S128x64_0_0)).write (Elt F) h (k0_pay5 : FVec F S128x64 .f32) Finset.univ = k0_pay5 :=
    read_write_origin hM.view ![0, 0] (by decide) inb_S128x64_S128x64_0_0 h _
  rw [e]
  iexact Hk

/-- What the body reads of slot `w` lies in the slot. -/
theorem slot_sub (w : ℕ) (off : Fin 4 → ℕ) (hoff : off = ![w, 0, 0, 0]) (inb : ∀ a, off a + S1x100x128x256.size a ≤ S2x100x128x256.size a) :
    bufM.view.setOn (Rect.unit (s := S2x100x128x256) off S1x100x128x256.size inb).toLoadRect.set ⊆ restS w 0 := by
  subst hoff
  intro x hx
  have hx' : x ∈ (Rect.unit (s := S2x100x128x256) ![w, 0, 0, 0] S1x100x128x256.size inb).set := by
    obtain ⟨y, hy, rfl⟩ := Finset.mem_map.mp hx
    exact hy
  have := Rect.mem_set_unit.mp hx' 0
  have h0 : w ≤ (x 0).val := this.1
  have h1 : (x 0).val < w + 1 := this.2
  unfold restS
  exact Finset.mem_filter.mpr ⟨Finset.mem_univ _, by omega, Nat.zero_le _⟩

set_option maxHeartbeats 2000000 in
/-- The computation of a grid point whose segment has landed in slot `w`. -/
theorem wp_compute (c : Dev nD) (i : grid0.Coords) (X : XBuf F c) (b s w : ℕ) (hoff : k0_off307 i = ![w, 0, 0, 0])
    (m3 : Memref sig .tc .vmem S1x256x64 .f32) (m4 : Memref sig .tc .vmem S1x64x128 .f32) (m5 : Memref sig .tc .vmem S1x1x64 .f32)
    (m6 : Memref sig .tc .vmem S1x1x1 .f32) (m7 : Memref sig .tc .vmem S1x128x100 .f32)
    (d3 : Vec F S1x256x64 .f32) (d4 : Vec F S1x64x128 .f32) (d5 : Vec F S1x1x64 .f32) (d6 : Vec F S1x1x1 .f32) (d7 : Vec F S1x128x100 .f32)
    (xp : Vec F S12800x64 .f32) (h : Vec F S128x64 .f32) (Q : PUnit → sProp 𝕄) :
    iprop((((c : Thread nD τ).loc cc0_scratch0) ↦[restS w 0]{fullShare} (landed X b s : SBuf F c))
      ∗ (((c : Thread nD τ).loc cc0_scratch1) ↦{fullShare} xp)
      ∗ (((c : Thread nD τ).loc cc0_scratch2) ↦{fullShare} h)
      ∗ owns (c : Thread nD τ) m3 fullShare d3 ∗ owns (c : Thread nD τ) m4 fullShare d4 ∗ owns (c : Thread nD τ) m5 fullShare d5 ∗ owns (c : Thread nD τ) m6 fullShare d6
      ∗ owns (c : Thread nD τ) m7 fullShare d7
      ∗ (iprop((((c : Thread nD τ).loc cc0_scratch0) ↦[restS w 0]{fullShare} (landed X b s : SBuf F c))
          ∗ (((c : Thread nD τ).loc cc0_scratch1) ↦{fullShare} (k0_pay6 (segV X b s) d3 d5 : Vec F S12800x64 .f32))
          ∗ (((c : Thread nD τ).loc cc0_scratch2) ↦{fullShare} (hNext d4 (k0_pay6 (segV X b s) d3 d5) h : Vec F S128x64 .f32))
          ∗ owns (c : Thread nD τ) m3 fullShare d3 ∗ owns (c : Thread nD τ) m4 fullShare d4 ∗ owns (c : Thread nD τ) m5 fullShare d5 ∗ owns (c : Thread nD τ) m6 fullShare d6
          ∗ owns (c : Thread nD τ) m7 fullShare (outY d4 d6 (k0_pay6 (segV X b s) d3 d5) h)) -∗ Q ⟨⟩))
      ⊢ wp frame (wpE (defs₀ (F := F)) Variants.none c none) Set.univ (computeP i m3 m4 m5 m6 m7 bufM xpM hM) Q := by
  unfold owns
  iintro ⟨HB, HX, HH, ⟨%f3, %e3, H3⟩, ⟨%f4, %e4, H4⟩, ⟨%f5, %e5, H5⟩, ⟨%f6, %e6, H6⟩, ⟨%f7, %e7, H7⟩, Hk⟩
  unfold computeP
  iapply (wp_load Variants.none (defs := defs₀ (F := F)) (c : Thread nD τ) none Set.univ
      (m := bufM) (S := restS w 0) (slot_sub w _ hoff _)) $$ HB
  iintro HB
  rw [readAt_seg c X b s w _ hoff]
  iapply (wp_load Variants.none (defs := defs₀ (F := F)) (c : Thread nD τ) none Set.univ
      (m := m3) (S := m3.view.set) (View.setOn_subset_set _ _)) $$ H3
  iintro H3
  rw [readAt_origin m3.view ![0, 0, 0] (by decide) _ f3, e3]
  iapply (wp_load Variants.none (defs := defs₀ (F := F)) (c : Thread nD τ) none Set.univ
      (m := m5) (S := m5.view.set) (View.setOn_subset_set _ _)) $$ H5
  iintro H5
  rw [readAt_origin m5.view ![0, 0, 0] (by decide) _ f5, e5]
  iapply (wp_load Variants.none (defs := defs₀ (F := F)) (c : Thread nD τ) none Set.univ
      (m := xpM) (S := Finset.univ) (Finset.subset_univ _)) $$ HX
  iintro HX
  iapply (wp_store Variants.none (defs := defs₀ (F := F)) (c : Thread nD τ) none Set.univ
      (m := xpM) (r := Rect.unit (s := S12800x64) ![0, 0] S12800x64.size inb_S12800x64_S12800x64_0_0) (w := (k0_pay6 (segV X b s) d3 d5 : FVec F S12800x64 .f32))
      (Mk := Finset.univ) (f := xp) (S := Finset.univ) (Finset.subset_univ _)) $$ HX
  generalize hxe : (k0_pay6 (segV X b s) d3 d5 : FVec F S12800x64 .f32) = xe
  have ex : (xpM.access (Rect.unit (s := S12800x64) ![0, 0] S12800x64.size inb_S12800x64_S12800x64_0_0)).write (Elt F) xp xe Finset.univ = xe :=
    read_write_origin xpM.view ![0, 0] (by decide) inb_S12800x64_S12800x64_0_0 xp _
  rw [ex]
  iintro HX
  iapply (wp_load Variants.none (defs := defs₀ (F := F)) (c : Thread nD τ) none Set.univ
      (m := m4) (S := m4.view.set) (View.setOn_subset_set _ _)) $$ H4
  iintro H4
  rw [readAt_origin m4.view ![0, 0, 0] (by decide) _ f4, e4]
  iapply (wp_load Variants.none (defs := defs₀ (F := F)) (c : Thread nD τ) none Set.univ
      (m := m6) (S := m6.view.set) (View.setOn_subset_set _ _)) $$ H6
  iintro H6
  rw [readAt_origin m6.view ![0, 0, 0] (by decide) _ f6, e6]
  iapply (wp_load Variants.none (defs := defs₀ (F := F)) (c : Thread nD τ) none Set.univ
      (m := hM) (S := Finset.univ) (Finset.subset_univ _)) $$ HH
  iintro HH
  have eh : hM.view.readAt (Elt F) (Rect.unit (s := S128x64) ![0, 0] S128x64.size inb_S128x64_S128x64_0_0).toLoadRect h = h :=
    readAt_origin hM.view ![0, 0] (by decide) inb_S128x64_S128x64_0_0 h
  rw [eh]
  have h99 : 0 + 99 ≤ 100 := by omega
  iapply (wp_steps c m7 d4 d6 xe h _ _ 99 0 h99 rfl)
  isplitl [HX]; · iexact HX
  isplitl [H7]
  · iexists f7
    isplitr; · ipureintro; exact fun y hy => absurd hy (Nat.not_lt_zero _)
    iexact H7
  iintro ⟨HX, HY⟩
  have h100 : 99 < 100 := by omega
  iapply (wp_loadX c xe 99 h100)
  isplitl [HX]; · iexact HX
  iintro HX
  iapply (wp_load Variants.none (defs := defs₀ (F := F)) (c : Thread nD τ) none Set.univ
      (m := hM) (S := Finset.univ) (Finset.subset_univ _)) $$ HH
  iintro HH
  iapply (wp_store Variants.none (defs := defs₀ (F := F)) (c : Thread nD τ) none Set.univ
      (m := hM) (r := Rect.unit (s := S128x64) ![0, 0] S128x64.size inb_S128x64_S128x64_0_0) (w := hNext d4 xe h) (Mk := Finset.univ) (f := h)
      (S := Finset.univ) (Finset.subset_univ _)) $$ HH
  have en : (hM.access (Rect.unit (s := S128x64) ![0, 0] S128x64.size inb_S128x64_S128x64_0_0)).write (Elt F) h (hNext d4 xe h) Finset.univ = hNext d4 xe h :=
    read_write_origin hM.view ![0, 0] (by decide) inb_S128x64_S128x64_0_0 h _
  rw [en]
  iintro HH
  have hw : ∀ y : S1x128x100.Idx, (y 2).val = 99 → outY d4 d6 xe h y
      = k0_pay4 (k0_pay7 d4) (k0_pay8 d6) (zAt d4 xe h 99) (xrow xe 99) (ix3 (⟨0, Nat.one_pos⟩ : Fin 1) (⟨(y 1).val, (y 1).isLt⟩ : Fin 128) (⟨0, Nat.one_pos⟩ : Fin 1) : S1x128x1.Idx) := by
    intro y hy
    rw [outY_col d4 d6 xe h 99 y hy, colY, if_neg (by omega)]
  have hput := wp_putY c m7 (outY d4 d6 xe h) 99 h100 _ hw pure Q
  rw [bind_pure] at hput
  iapply hput
  isplitl [HY]; · iexact HY
  iintro ⟨%f, %hf, HY⟩
  have hF : m7.view.read (Elt F) f = outY d4 d6 xe h := funext fun y => hf y (y 2).isLt
  rw [wp_pure]
  imodintro
  iapply Hk
  isplitl [HB]; · iexact HB
  isplitl [HX]; · iexact HX
  isplitl [HH]; · iexact HH
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  iexists f; isplitr; · ipureintro; exact hF
  iexact HY

end Cert.KernelIdeal.Hand
-- ==== Proof.IPoint.lean ====
/-
  One grid point of the kernel. Before point `10 b + s` segment `s` of block `b` is in flight into slot `s % 2` unless `s = 0`, when
  nothing is; after it the next segment is in flight, or nothing. `Flow` is that state, `wp_body` the triple of the body at it.
-/
module

public import proofs.«01_k».proof.Proof.ICompute

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The loops at a grid point -/

theorem issue_congr (arg2 : Memref sig .tc .hbm S256x1000x256 .f32) (arg8 : Memref sig .tc .vmem S2x100x128x256 .f32) (arg11 : DmaSems sig S2)
    {os os' : Fin 3 → ℕ} {od od' : Fin 4 → ℕ} {oc oc' : Fin 1 → ℕ} (h1 : os = os') (h2 : od = od') (h3 : oc = oc')
    (hs hs' hd hd' hc hc') :
    (issue arg2 arg8 arg11 os hs od hd oc hc : PR F PUnit) = issue arg2 arg8 arg11 os' hs' od' hd' oc' hc' := by
  subst h1 h2 h3; rfl
theorem await_congr (arg2 : Memref sig .tc .hbm S256x1000x256 .f32) (arg8 : Memref sig .tc .vmem S2x100x128x256 .f32) (arg11 : DmaSems sig S2)
    {os os' : Fin 3 → ℕ} {od od' : Fin 4 → ℕ} {oc oc' : Fin 1 → ℕ} (h1 : os = os') (h2 : od = od') (h3 : oc = oc')
    (hs hs' hd hd' hc hc') :
    (await arg2 arg8 arg11 os hs od hd oc hc : PR F PUnit) = await arg2 arg8 arg11 os' hs' od' hd' oc' hc' := by
  subst h1 h2 h3; rfl

theorem slotW_eq (i : grid0.Coords) : (slotW i).toNat = (i 1).val % 2 := by
  have := congrFun (k0_off1_eq i) 0
  simpa only [k0_off1, Matrix.cons_val_zero] using this
theorem slotW'_eq (i : grid0.Coords) : (slotW' i).toNat = 1 - (i 1).val % 2 := by
  have := congrFun (k0_off103_eq i) 0
  simpa only [k0_off103, Matrix.cons_val_zero] using this

theorem cond1_iff : ∀ i : grid0.Coords, k0_cond1 i = 1#1 ↔ (i 1).val = 0 := by decide +kernel
theorem cond2_iff : ∀ i : grid0.Coords, k0_cond2 i = 1#1 ↔ (i 1).val < 9 := by decide +kernel

theorem b_lt (i : grid0.Coords) : (i 0).val < 2 := (i 0).isLt
theorem s_lt (i : grid0.Coords) : (i 1).val < 10 := (i 1).isLt
theorem w_lt (s : ℕ) : s % 2 < 2 := Nat.mod_lt _ (by decide)
theorem w'_lt (s : ℕ) : 1 - s % 2 < 2 := by omega

theorem issuesA_eq (i : grid0.Coords) (h1 : k0_cond1 i = 1#1) :
    (issuesA i xM bufM cc0_scratch3 h1 : PR F PUnit)
      = rows (issueAt (i 0).val (i 1).val ((i 1).val % 2) (b_lt i) (s_lt i) (w_lt _)) 100 0 (by omega) := by
  unfold issuesA
  congr 1
  funext t ht
  exact issue_congr _ _ _ (k0_off3_eq i ⟨t, ht⟩) (congrArg (fun w => (![w, t, 0, 0] : Fin 4 → ℕ)) (slotW_eq i)) (k0_off1_eq i) _ _ _ _ _ _
theorem issuesB_eq (i : grid0.Coords) (h2 : k0_cond2 i = 1#1) (hs : (i 1).val + 1 < 10) :
    (issuesB i xM bufM cc0_scratch3 h2 (slotW'_lt i) : PR F PUnit)
      = rows (issueAt (i 0).val ((i 1).val + 1) (1 - (i 1).val % 2) (b_lt i) hs (w'_lt _)) 100 0 (by omega) := by
  unfold issuesB
  congr 1
  funext t ht
  refine issue_congr _ _ _ ((k0_off105_eq i ⟨t, ht⟩).trans ?_) (congrArg (fun w => (![w, t, 0, 0] : Fin 4 → ℕ)) (slotW'_eq i)) (k0_off103_eq i) _ _ _ _ _ _
  show ![128 * (i 0).val, 100 * (i 1).val + t + 100, 0] = ![128 * (i 0).val, 100 * ((i 1).val + 1) + t, 0]
  rw [show 100 * (i 1).val + t + 100 = 100 * ((i 1).val + 1) + t by omega]
theorem awaits_eq (i : grid0.Coords) :
    (awaits i xM bufM cc0_scratch3 : PR F PUnit)
      = rows (awaitAt (i 0).val (i 1).val ((i 1).val % 2) (b_lt i) (s_lt i) (w_lt _)) 100 0 (by omega) := by
  unfold awaits
  congr 1
  funext t ht
  exact await_congr _ _ _ (k0_off207_eq i ⟨t, ht⟩) (congrArg (fun w => (![w, t, 0, 0] : Fin 4 → ℕ)) (slotW_eq i)) (k0_off205_eq i) _ _ _ _ _ _

/-! ## The state between points -/

/-- Slot `w` at rest: its rows at some contents, its counter at zero. -/
def Own (c : Dev nD) (w : ℕ) : sProp 𝕄 :=
  iprop((∃ f : SBuf F c, (((c : Thread nD τ).loc cc0_scratch0) ↦[restS w 0]{fullShare} f)) ∗ semVal ((c : Thread nD τ), SemLoc.dma (cell w)) 0)
/-- The source but for segment `s` of block `b`. -/
def xBut (c : Dev nD) (X : XBuf F c) (b s : ℕ) : sProp 𝕄 := (((c : Thread nD τ).loc main_arg0) ↦[Finset.univ \ restX b s 0]{fullShare} X)
/-- The state before segment `s` of block `b`. -/
def Flow (c : Dev nD) (X : XBuf F c) (b s : ℕ) : sProp 𝕄 :=
  if s = 0 then iprop(Own c 0 ∗ Own c 1 ∗ (((c : Thread nD τ).loc main_arg0) ↦{fullShare} X))
  else iprop(Fly c X b s (s % 2) 100 0 ∗ xBut c X b s ∗ Own c (1 - s % 2))
/-- The state once the next segment's transfers are issued, the segment in use apart. -/
def Ahead (c : Dev nD) (X : XBuf F c) (b s : ℕ) : sProp 𝕄 :=
  if s < 9 then iprop(Fly c X b (s + 1) (1 - s % 2) 100 0 ∗ (((c : Thread nD τ).loc main_arg0) ↦[(Finset.univ \ restX b s 0) \ restX b (s + 1) 0]{fullShare} X))
  else iprop(xBut c X b s ∗ Own c (1 - s % 2))

theorem restX_ne (b s : ℕ) : Disjoint (restX b s 0) (restX b (s + 1) 0) := by
  rw [Finset.disjoint_left]; intro x h1 h2
  simp only [restX, Finset.mem_filter, Finset.mem_univ, true_and] at h1 h2; omega
theorem next_sub (b s : ℕ) : restX b (s + 1) 0 ⊆ Finset.univ \ restX b s 0 := fun x hx =>
  Finset.mem_sdiff.mpr ⟨Finset.mem_univ _, fun h => Finset.disjoint_left.mp (restX_ne b s) h hx⟩

/-- Issuing a segment's transfers into a slot at rest. -/
theorem wp_send {α : Type} (c : Dev nD) (X : XBuf F c) (b s w : ℕ) (hb : b < 2) (hs : s < 10) (hw : w < 2) (h : 0 + 100 ≤ 100)
    (k : PUnit → PR F α) (Q : α → sProp 𝕄) :
    iprop(Own c w ∗ (((c : Thread nD τ).loc main_arg0) ↦[restX b s 0]{fullShare} X)
        ∗ (Fly c X b s w 100 0 -∗ wp frame (wpE (defs₀ (F := F)) Variants.none c none) Set.univ (k ⟨⟩) Q))
      ⊢ wp frame (wpE (defs₀ (F := F)) Variants.none c none) Set.univ (rows (issueAt b s w hb hs hw) 100 0 h >>= k) Q := by
  unfold Own
  iintro ⟨⟨⟨%f, HS⟩, Hsem⟩, HX, Hk⟩
  imod (Transfers.batch_alloc' (Lvl := ℕ) (countersEmb (U := Pipeline.UD sig nD τ)) (c : Thread nD τ) () 4096 (deliv c X b s w)
    (sm := SemLoc.dma (cell w)) (E := Set.univ)) $$ Hsem with HB
  have h' : 0 + 100 = 100 := rfl
  iapply (wp_issues c X f b s w hb hs hw k Q 100 0 h h')
  isplitl [HS]; · iexact HS
  isplitl [HX]; · iexact HX
  isplitl [HB]; · iexact HB
  iexact Hk

/-- A block's first segment is issued before it is used, after clearing the hidden state; a later one already is in flight. -/
theorem wp_pre1 {α : Type} (c : Dev nD) (X : XBuf F c) (i : grid0.Coords) (h0 : Vec F S128x64 .f32)
    (k : PUnit → PR F α) (Q : α → sProp 𝕄) :
    iprop(Flow c X (i 0).val (i 1).val ∗ (((c : Thread nD τ).loc cc0_scratch2) ↦{fullShare} h0)
        ∗ (iprop(Fly c X (i 0).val (i 1).val ((i 1).val % 2) 100 0 ∗ xBut c X (i 0).val (i 1).val ∗ Own c (1 - (i 1).val % 2)
            ∗ (((c : Thread nD τ).loc cc0_scratch2) ↦{fullShare} (if (i 1).val = 0 then (k0_pay5 : FVec F S128x64 .f32) else h0)))
          -∗ wp frame (wpE (defs₀ (F := F)) Variants.none c none) Set.univ (k ⟨⟩) Q))
      ⊢ wp frame (wpE (defs₀ (F := F)) Variants.none c none) Set.univ ((if h1 : k0_cond1 i = 1#1 then (do
          clearH hM
          issuesA i xM bufM cc0_scratch3 h1) else pure ⟨⟩) >>= k) Q := by
  by_cases hs : (i 1).val = 0
  · have h1 : k0_cond1 i = 1#1 := (cond1_iff i).mpr hs
    rw [dif_pos h1, if_pos hs, bind_assoc, issuesA_eq i h1]
    unfold Flow
    rw [if_pos hs]
    iintro ⟨⟨HO0, HO1, HX⟩, HH, Hk⟩
    iapply (wp_clearH c h0)
    isplitl [HH]; · iexact HH
    iintro HH
    ihave HX' := (pointsTo_split_subset (Finset.subset_univ (restX (i 0).val (i 1).val 0))).1 $$ HX
    icases HX' with ⟨HX1, HX2⟩
    have h100 : 0 + 100 ≤ 100 := le_refl _
    iapply (wp_send c X (i 0).val (i 1).val ((i 1).val % 2) (b_lt i) (s_lt i) (w_lt _) h100 k Q)
    isplitl [HO0]
    · rw [hs]; iexact HO0
    isplitl [HX1]; · iexact HX1
    iintro HB
    iapply Hk
    isplitl [HB]; · iexact HB
    isplitl [HX2]
    · unfold xBut; iexact HX2
    isplitl [HO1]
    · rw [hs]; iexact HO1
    iexact HH
  · have h1 : ¬ k0_cond1 i = 1#1 := fun h => hs ((cond1_iff i).mp h)
    rw [dif_neg h1, if_neg hs, pure_bind]
    unfold Flow
    rw [if_neg hs]
    iintro ⟨⟨HB, HX, HO⟩, HH, Hk⟩
    iapply Hk
    isplitl [HB]; · iexact HB
    isplitl [HX]; · iexact HX
    isplitl [HO]; · iexact HO
    iexact HH

/-- The next segment of the block is issued into the other slot, if there is one. -/
theorem wp_pre2 {α : Type} (c : Dev nD) (X : XBuf F c) (i : grid0.Coords) (k : PUnit → PR F α) (Q : α → sProp 𝕄) :
    iprop(xBut c X (i 0).val (i 1).val ∗ Own c (1 - (i 1).val % 2)
        ∗ (Ahead c X (i 0).val (i 1).val -∗ wp frame (wpE (defs₀ (F := F)) Variants.none c none) Set.univ (k ⟨⟩) Q))
      ⊢ wp frame (wpE (defs₀ (F := F)) Variants.none c none) Set.univ
          ((if h2 : k0_cond2 i = 1#1 then issuesB i xM bufM cc0_scratch3 h2 (slotW'_lt i) else pure ⟨⟩) >>= k) Q := by
  by_cases hs : (i 1).val < 9
  · have h2 : k0_cond2 i = 1#1 := (cond2_iff i).mpr hs
    have hs' : (i 1).val + 1 < 10 := by omega
    rw [dif_pos h2, issuesB_eq i h2 hs']
    unfold Ahead xBut
    rw [if_pos hs]
    iintro ⟨HX, HO, Hk⟩
    ihave HX' := (pointsTo_split_subset (next_sub (i 0).val (i 1).val)).1 $$ HX
    icases HX' with ⟨HX1, HX2⟩
    have h100 : 0 + 100 ≤ 100 := le_refl _
    iapply (wp_send c X (i 0).val ((i 1).val + 1) (1 - (i 1).val % 2) (b_lt i) hs' (w'_lt _) h100 k Q)
    isplitl [HO]; · iexact HO
    isplitl [HX1]; · iexact HX1
    iintro HB
    iapply Hk
    isplitl [HB]; · iexact HB
    iexact HX2
  · have h2 : ¬ k0_cond2 i = 1#1 := fun h => hs ((cond2_iff i).mp h)
    rw [dif_neg h2, pure_bind]
    unfold Ahead
    rw [if_neg hs]
    iintro ⟨HX, HO, Hk⟩
    iapply Hk
    isplitl [HX]; · iexact HX
    iexact HO

theorem deliv_all (c : Dev nD) (X : XBuf F c) (b s w : ℕ) :
    bigSep Finset.univ (deliv c X b s w)
      ⊢ iprop((((c : Thread nD τ).loc cc0_scratch0) ↦[restS w 0]{fullShare} (landed X b s : SBuf F c))
          ∗ (((c : Thread nD τ).loc main_arg0) ↦[restX b s 0]{fullShare} X)) := by
  rw [Transfers.bigSep_pending_zero (deliv c X b s w)]
  exact deliv_collect c X b s w 100 0 rfl
theorem source_whole (c : Dev nD) (X : XBuf F c) (b s : ℕ) :
    iprop((((c : Thread nD τ).loc main_arg0) ↦[Finset.univ \ restX b s 0]{fullShare} X) ∗ (((c : Thread nD τ).loc main_arg0) ↦[restX b s 0]{fullShare} X))
      ⊢ (((c : Thread nD τ).loc main_arg0) ↦{fullShare} X : sProp 𝕄) := by
  have e : (Finset.univ \ restX b s 0) ∪ restX b s 0 = (Finset.univ : Finset S256x1000x256.Idx) := Finset.sdiff_union_of_subset (Finset.subset_univ _)
  exact (pointsTo_union Finset.sdiff_disjoint).2.trans (by rw [e])

/-- The segment used, its slot is at rest again and the next point's state holds. -/
theorem ahead_flow (c : Dev nD) (X : XBuf F c) (b s : ℕ) (hs : s < 10) (f : SBuf F c) :
    iprop(Ahead c X b s ∗ (((c : Thread nD τ).loc cc0_scratch0) ↦[restS (s % 2) 0]{fullShare} f) ∗ semVal ((c : Thread nD τ), SemLoc.dma (cell (s % 2))) 0
        ∗ (((c : Thread nD τ).loc main_arg0) ↦[restX b s 0]{fullShare} X))
      ⊢ if s = 9 then Flow c X (b + 1) 0 else Flow c X b (s + 1) := by
  unfold Ahead Flow xBut
  by_cases h9 : s < 9
  · rw [if_pos h9, if_neg (by omega : ¬ s = 9), if_neg (by omega : ¬ s + 1 = 0), show (s + 1) % 2 = 1 - s % 2 by omega, show 1 - (1 - s % 2) = s % 2 by omega]
    iintro ⟨⟨HB, HX⟩, HS, Hsem, HX'⟩
    isplitl [HB]; · iexact HB
    isplitl [HX HX']
    · rw [show Finset.univ \ restX b (s + 1) 0 = ((Finset.univ \ restX b s 0) \ restX b (s + 1) 0) ∪ restX b s 0 from by
        ext x
        have hx : x ∈ restX b s 0 → x ∉ restX b (s + 1) 0 := fun h => Finset.disjoint_left.mp (restX_ne b s) h
        simp only [Finset.mem_sdiff, Finset.mem_univ, true_and, Finset.mem_union]
        tauto]
      iapply (pointsTo_union (Finset.disjoint_left.mpr fun x h1 h2 => (Finset.mem_sdiff.mp (Finset.mem_sdiff.mp h1).1).2 h2)).2
      isplitl [HX]; · iexact HX
      iexact HX'
    unfold Own
    isplitl [HS]; · iexists f; iexact HS
    iexact Hsem
  · obtain rfl : s = 9 := by omega
    rw [if_neg h9, if_pos rfl, if_pos rfl]
    iintro ⟨⟨HX, HO⟩, HS, Hsem, HX'⟩
    isplitl [HO]; · iexact HO
    isplitl [HS Hsem]
    · unfold Own
      isplitl [HS]; · iexists f; iexact HS
      iexact Hsem
    iapply (source_whole c X b 9)
    isplitl [HX]; · iexact HX
    iexact HX'

/-- The body at a grid point. -/
theorem wp_body (c : Dev nD) (X : XBuf F c) (i : grid0.Coords)
    (m3 : Memref sig .tc .vmem S1x256x64 .f32) (m4 : Memref sig .tc .vmem S1x64x128 .f32) (m5 : Memref sig .tc .vmem S1x1x64 .f32)
    (m6 : Memref sig .tc .vmem S1x1x1 .f32) (m7 : Memref sig .tc .vmem S1x128x100 .f32)
    (d3 : Vec F S1x256x64 .f32) (d4 : Vec F S1x64x128 .f32) (d5 : Vec F S1x1x64 .f32) (d6 : Vec F S1x1x1 .f32) (d7 : Vec F S1x128x100 .f32)
    (xp : Vec F S12800x64 .f32) (h0 h : Vec F S128x64 .f32) (hh : (if (i 1).val = 0 then (k0_pay5 : FVec F S128x64 .f32) else h0) = h)
    (W : Waits sig Unit) (Q : PUnit → sProp 𝕄) :
    iprop(Flow c X (i 0).val (i 1).val
      ∗ (((c : Thread nD τ).loc cc0_scratch1) ↦{fullShare} xp)
      ∗ (((c : Thread nD τ).loc cc0_scratch2) ↦{fullShare} h0)
      ∗ owes (c : Thread nD τ) 0 W
      ∗ owns (c : Thread nD τ) m3 fullShare d3 ∗ owns (c : Thread nD τ) m4 fullShare d4 ∗ owns (c : Thread nD τ) m5 fullShare d5 ∗ owns (c : Thread nD τ) m6 fullShare d6
      ∗ owns (c : Thread nD τ) m7 fullShare d7
      ∗ (iprop((if (i 1).val = 9 then Flow c X ((i 0).val + 1) 0 else Flow c X (i 0).val ((i 1).val + 1))
          ∗ (((c : Thread nD τ).loc cc0_scratch1) ↦{fullShare} (k0_pay6 (segV X (i 0).val (i 1).val) d3 d5 : Vec F S12800x64 .f32))
          ∗ (((c : Thread nD τ).loc cc0_scratch2) ↦{fullShare} (hNext d4 (k0_pay6 (segV X (i 0).val (i 1).val) d3 d5) h : Vec F S128x64 .f32))
          ∗ (∃ W', owes (c : Thread nD τ) 0 W')
          ∗ owns (c : Thread nD τ) m3 fullShare d3 ∗ owns (c : Thread nD τ) m4 fullShare d4 ∗ owns (c : Thread nD τ) m5 fullShare d5 ∗ owns (c : Thread nD τ) m6 fullShare d6
          ∗ owns (c : Thread nD τ) m7 fullShare (outY d4 d6 (k0_pay6 (segV X (i 0).val (i 1).val) d3 d5) h)) -∗ Q ⟨⟩))
      ⊢ wp frame (wpE (defs₀ (F := F)) Variants.none c none) Set.univ (bodyP i xM m3 m4 m5 m6 m7 bufM xpM hM cc0_scratch3) Q := by
  unfold bodyP preP
  rw [bind_assoc, awaits_eq]
  iintro ⟨HF, HX, HH, HW, H3, H4, H5, H6, H7, Hk⟩
  iapply (wp_pre1 c X i h0)
  isplitl [HF]; · iexact HF
  isplitl [HH]; · iexact HH
  iintro ⟨HB, HXB, HO, HH⟩
  rw [hh]
  iapply (wp_pre2 c X i)
  isplitl [HXB]; · iexact HXB
  isplitl [HO]; · iexact HO
  iintro HA
  have h100 : 0 + (99 + 1) ≤ 100 := le_refl _
  iapply (wp_awaits c X (i 0).val (i 1).val ((i 1).val % 2) (b_lt i) (s_lt i) (w_lt _) _ Q 99 0 h100 rfl W)
  isplitl [HB]; · iexact HB
  isplitl [HW]; · iexact HW
  iintro ⟨%W', HD, Hsem, HW⟩
  ihave HD' := (deliv_all c X (i 0).val (i 1).val ((i 1).val % 2)) $$ HD
  icases HD' with ⟨HS, HXs⟩
  have hoff : k0_off307 i = ![(i 1).val % 2, 0, 0, 0] := k0_off307_eq i
  iapply (wp_compute c i X (i 0).val (i 1).val ((i 1).val % 2) hoff m3 m4 m5 m6 m7 d3 d4 d5 d6 d7 xp h Q)
  isplitl [HS]; · iexact HS
  isplitl [HX]; · iexact HX
  isplitl [HH]; · iexact HH
  isplitl [H3]; · iexact H3
  isplitl [H4]; · iexact H4
  isplitl [H5]; · iexact H5
  isplitl [H6]; · iexact H6
  isplitl [H7]; · iexact H7
  iintro ⟨HS, HX, HH, H3, H4, H5, H6, H7⟩
  iapply Hk
  isplitl [HA HS Hsem HXs]
  · iapply (ahead_flow c X (i 0).val (i 1).val (s_lt i) (landed X (i 0).val (i 1).val))
    isplitl [HA]; · iexact HA
    isplitl [HS]; · iexact HS
    isplitl [Hsem]; · iexact Hsem
    iexact HXs
  isplitl [HX]; · iexact HX
  isplitl [HH]; · iexact HH
  isplitl [HW]; · iexists W'; iexact HW
  isplitl [H3]; · iexact H3
  isplitl [H4]; · iexact H4
  isplitl [H5]; · iexact H5
  isplitl [H6]; · iexact H6
  iexact H7

end Cert.KernelIdeal.Hand
-- ==== Proof.IBodyEq.lean ====
/-
  The printed body is the loops of KBody.lean.
-/
module

public import proofs.«01_k».proof.Proof.IBody

@[expose] public section

set_option maxRecDepth 65536

noncomputable section

namespace Cert.KernelIdeal.Hand

open Cert.KernelIdeal Cert.KernelIdeal.Gen
open Idealize.ShloMosaic Idealize.SL.Sem

variable {F : FTy → Type} [FloatOps F]

variable (i : grid0.Coords) (arg2 : Memref sig .tc .hbm S256x1000x256 .f32)
  (arg3 : Memref sig .tc .vmem S1x256x64 .f32) (arg4 : Memref sig .tc .vmem S1x64x128 .f32)
  (arg5 : Memref sig .tc .vmem S1x1x64 .f32) (arg6 : Memref sig .tc .vmem S1x1x1 .f32)
  (arg7 : Memref sig .tc .vmem S1x128x100 .f32) (arg8 : Memref sig .tc .vmem S2x100x128x256 .f32)
  (arg9 : Memref sig .tc .vmem S12800x64 .f32) (arg10 : Memref sig .tc .vmem S128x64 .f32) (arg11 : DmaSems sig S2)

theorem part51_eq (harg2 harg3 harg4 harg5 harg6 harg7 harg8 harg9 harg10) :
    k0_part51 (F := F) i arg2 harg2 arg3 harg3 arg4 harg4 arg5 harg5 arg6 harg6 arg7 harg7 arg8 harg8 arg9 harg9 arg10 harg10 arg11
      = preP i arg2 arg8 arg10 arg11 >>= fun _ =>
        rows (fun t ht => await arg2 arg8 arg11 (k0_off207 i (BitVec.ofNat 32 t)) (k0_off207_inb i ⟨t, ht⟩) ![(slotW i).toNat, t, 0, 0] (offD_inb _ (slotW_lt i) t ht)
          (k0_off205 i) (k0_off205_inb i)) 2 0 (by omega) >>= fun _ => pure ⟨BitVec.ofNat 32 (i 1).val, slotW i⟩ := by
  unfold k0_part51 preP
  by_cases h1 : k0_cond1 i = 1#1
  · by_cases h2 : k0_cond2 i = 1#1
    · simp only [dif_pos h1, dif_pos h2]; rfl
    · simp only [dif_pos h1, dif_neg h2]; rfl
  · by_cases h2 : k0_cond2 i = 1#1
    · simp only [dif_neg h1, dif_pos h2]; rfl
    · simp only [dif_neg h1, dif_neg h2]; rfl

set_option maxHeartbeats 4000000 in
theorem body_eq (harg2 harg3 harg4 harg5 harg6 harg7 harg8 harg9 harg10) :
    cc0_tv_rnn_fused (F := F) i arg2 harg2 arg3 harg3 arg4 harg4 arg5 harg5 arg6 harg6 arg7 harg7 arg8 harg8 arg9 harg9 arg10 harg10 arg11
      = bodyP i arg2 arg3 arg4 arg5 arg6 arg7 arg8 arg9 arg10 arg11 := by
  unfold cc0_tv_rnn_fused k0_part123 bodyP
  rw [bind_assoc, part51_eq, bind_assoc]
  refine congrArg (preP i arg2 arg8 arg10 arg11 >>= ·) (funext fun _ => ?_)
  rfl

end Cert.KernelIdeal.Hand
-- ==== Proof.IFrame.lean ====
/-
  The launch of the kernel with the transfers of its body: the state before each grid point, the contents the output window is left
  with, and the frame: the program terminates, nothing faults, the seven arguments end unchanged.
-/
module

public import proofs.«01_k».proof.Proof.IPoint
public import proofs.«01_k».proof.Proof.IBodyEq
public import proofs.«01_k».proof.Proof.Gen.KernelIdeal.Frame
public import proofs.«01_k».proof.Proof.Gen.KernelIdeal.Points

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents, point by point -/

theorem pt_lt (k : ℕ) : k % 20 < cfg0.N := by show k % 20 < grid0.N; rw [N_0]; exact Nat.mod_lt _ (by decide)
/-- The grid point numbered `k`. -/
abbrev pt (k : ℕ) : Fin cfg0.N := ⟨k % 20, pt_lt k⟩
abbrev wihB (c : Dev nD) (k : ℕ) : Vec F S1x256x64 .f32 := iblk m c 0 (pt k)
abbrev wcB (c : Dev nD) (k : ℕ) : Vec F S1x64x128 .f32 := iblk m c 1 (pt k)
abbrev biasB (c : Dev nD) (k : ℕ) : Vec F S1x1x64 .f32 := iblk m c 2 (pt k)
abbrev fcB (c : Dev nD) (k : ℕ) : Vec F S1x1x1 .f32 := iblk m c 3 (pt k)
/-- The projected segment at point `k`. -/
def xpB (c : Dev nD) (k : ℕ) : FVec F S12800x64 .f32 :=
  k0_pay6 (segV (V m c main_arg0 : XBuf F c) (k / 10) (k % 10)) (wihB m c k) (biasB m c k)
/-- The hidden state left by the points before `k`. -/
def hSt (c : Dev nD) : ℕ → FVec F S128x64 .f32
  | 0 => k0_pay5
  | k + 1 => hNext (wcB m c k) (xpB m c k) (if k % 10 = 0 then k0_pay5 else hSt c k)
/-- The hidden state point `k` starts its recurrence from. -/
def hIn (c : Dev nD) (k : ℕ) : FVec F S128x64 .f32 := if k % 10 = 0 then k0_pay5 else hSt m c k
/-- The output block of point `k`. -/
def outB (c : Dev nD) (k : ℕ) : Vec F S1x128x100 .f32 := outY (wcB m c k) (fcB m c k) (xpB m c k) (hIn m c k)

/-- The state before point `k`. -/
def PhiAt (c : Dev nD) (k : ℕ) : sProp 𝕄 :=
  iprop(Flow c (V m c main_arg0 : XBuf F c) (k / 10) (k % 10)
    ∗ (∃ xp : Vec F S12800x64 .f32, (((c : Thread nD τ).loc cc0_scratch1) ↦{fullShare} xp))
    ∗ (∃ h0 : Vec F S128x64 .f32, ⌜(if k % 10 = 0 then (k0_pay5 : FVec F S128x64 .f32) else h0) = hIn m c k⌝ ∗ (((c : Thread nD τ).loc cc0_scratch2) ↦{fullShare} h0))
    ∗ (∃ r, prngReg c r))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB m c t.val
  Φ k := PhiAt m c k.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB m c t.val := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body -/

theorem coords_b : ∀ t : Fin cfg0.N, (grid0.coords t 0).val = t.val / 10 := by decide +kernel
theorem coords_s : ∀ t : Fin cfg0.N, (grid0.coords t 1).val = t.val % 10 := by decide +kernel
theorem pt_val (t : Fin cfg0.N) : pt t.val = t := Fin.ext (Nat.mod_eq_of_lt (by
  have h : t.val < grid0.N := t.isLt
  rwa [N_0] at h))

theorem flow_next (c : Dev nD) (X : XBuf F c) (k : ℕ) :
    (if k % 10 = 9 then Flow c X (k / 10 + 1) 0 else Flow c X (k / 10) (k % 10 + 1)) = (Flow c X ((k + 1) / 10) ((k + 1) % 10) : sProp 𝕄) := by
  by_cases h : k % 10 = 9
  · rw [if_pos h, show (k + 1) / 10 = k / 10 + 1 by omega, show (k + 1) % 10 = 0 by omega]
  · rw [if_neg h, show (k + 1) / 10 = k / 10 by omega, show (k + 1) % 10 = k % 10 + 1 by omega]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem bodyAt0_eq (t : Fin cfg0.N) :
    (bodyAt0 t : PR F PUnit) = bodyP (grid0.coords t) xM (st0_0 t) (st0_1 t) (st0_2 t) (st0_3 t) (st0_4 t) bufM xpM hM cc0_scratch3 :=
  body_eq _ _ _ _ _ _ _ _ _ _ _ _ _ _ _ _ _ _ _ _

theorem sound_body (c : Dev nD) (t : Fin cfg0.N) :
    bodyPre m c t ⊢ wp frame (wpE (defs₀ (F := F)) Variants.none c none) Set.univ (bodyAt0 t) (fun _ => bodyPost m c t) := by
  rw [bodyAt0_eq]
  unfold bodyPre bodyPost
  rw [after0_0, after0_1, after0_2, after0_3, after0_4]
  simp only [before0_0, before0_1, before0_2, before0_3]
  rw [show (dats m 0 c).Φ t.succ = PhiAt m c (t.val + 1) from rfl, show (dats m 0 c).Φ t.castSucc = PhiAt m c t.val from rfl]
  unfold Dat.owesAt Pipeline.owesWithin
  rw [show (dats m 0 c).owed t.castSucc = 0 from rfl, show (dats m 0 c).owed t.succ = 0 from rfl]
  have hbody := fun d7 xp h0 h hh W Q => wp_body (F := F) c (V m c main_arg0 : XBuf F c) (grid0.coords t) (st0_0 t) (st0_1 t) (st0_2 t) (st0_3 t) (st0_4 t)
    (iblk m c 0 t) (iblk m c 1 t) (iblk m c 2 t) (iblk m c 3 t) d7 xp h0 h hh W Q
  rw [coords_b, coords_s, flow_next] at hbody
  unfold PhiAt
  iintro ⟨⟨HF, ⟨%xp, HX⟩, ⟨%h0, %hh, HH⟩, Hg⟩, ⟨%W, -, HW⟩, ⟨%d0, H0⟩, ⟨%d1, H1⟩, ⟨%d2, H2⟩, ⟨%d3, H3⟩, ⟨%d4, H4⟩⟩
  iapply (hbody ((dats m 0 c).before 4 t d4) xp h0 (hIn m c t.val) hh W _)
  isplitl [HF]; · iexact HF
  isplitl [HX]; · iexact HX
  isplitl [HH]; · iexact HH
  isplitl [HW]; · iexact HW
  isplitl [H0]; · iexact H0
  isplitl [H1]; · iexact H1
  isplitl [H2]; · iexact H2
  isplitl [H3]; · iexact H3
  isplitl [H4]; · iexact H4
  iintro ⟨HF, HX, HH, ⟨%W', HW⟩, H0, H1, H2, H3, H4⟩
  isplitl [HF HX HH Hg]
  · isplitl [HF]; · iexact HF
    isplitl [HX]; · iexists _; iexact HX
    isplitl [HH]
    · iexists (hSt m c (t.val + 1))
      isplitr; · ipureintro; rfl
      have e : hSt m c (t.val + 1) = hNext (iblk m c 1 t) (k0_pay6 (segV (V m c main_arg0 : XBuf F c) (t.val / 10) (t.val % 10)) (iblk m c 0 t) (iblk m c 2 t)) (hIn m c t.val) := by
        show hNext (wcB m c t.val) (xpB m c t.val) (hIn m c t.val) = _
        unfold xpB wcB wihB biasB
        rw [pt_val]
      rw [e]
      iexact HH
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  have e : outB m c t.val = outY (iblk m c 1 t) (iblk m c 3 t) (k0_pay6 (segV (V m c main_arg0 : XBuf F c) (t.val / 10) (t.val % 10)) (iblk m c 0 t) (iblk m c 2 t)) (hIn m c t.val) := by
    unfold outB xpB wcB wihB biasB fcB
    rw [pt_val]
  rw [e]
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The two cells of the body's transfers. -/
abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl
/-- The operand the transfers read. -/
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄)
      = (((c : Thread nD τ).loc main_arg0) ↦{fullShare} V m c main_arg0) := by
  rw [BI.bigSep_eq_bigSepL_of_eq [main_arg0] (by decide) (by decide)]; rfl

theorem PhiD_eq (c : Dev nD) : Pipeline.ΦD osem0 spec0 H0 (V m) c
    = iprop(((∃ f : SBuf F c, (((c : Thread nD τ).loc cc0_scratch0) ↦{fullShare} f))
        ∗ (∃ f : Vec F S12800x64 .f32, (((c : Thread nD τ).loc cc0_scratch1) ↦{fullShare} f))
        ∗ (∃ f : Vec F S128x64 .f32, (((c : Thread nD τ).loc cc0_scratch2) ↦{fullShare} f)))
      ∗ (∃ r, prngReg c r)
      ∗ (semVal ((c : Thread nD τ), SemLoc.dma (cell 0)) 0 ∗ semVal ((c : Thread nD τ), SemLoc.dma (cell 1)) 0)
      ∗ (((c : Thread nD τ).loc main_arg0) ↦{fullShare} (V m c main_arg0 : XBuf F c)) : sProp 𝕄) := by
  rw [Pipeline.ΦD_eq, scopedRest0_eq, ownSems00_eq, hbmPts0_eq]; rfl

theorem slots_disj : Disjoint (restS 0 0) (restS 1 0) := by
  rw [Finset.disjoint_left]; intro x h1 h2
  simp only [restS, Finset.mem_filter, Finset.mem_univ, true_and] at h1 h2; omega
theorem slots_union : restS 0 0 ∪ restS 1 0 = Finset.univ := by
  ext x
  have : (x 0).val < 2 := (x 0).isLt
  simp only [restS, Finset.mem_union, Finset.mem_filter, Finset.mem_univ, true_and, iff_true]; omega

/-- The double buffer whole is its two slots at rest. -/
theorem slots_split (c : Dev nD) (f : SBuf F c) :
    (((c : Thread nD τ).loc cc0_scratch0) ↦{fullShare} f : sProp 𝕄)
      ⊢ iprop((((c : Thread nD τ).loc cc0_scratch0) ↦[restS 0 0]{fullShare} f) ∗ (((c : Thread nD τ).loc cc0_scratch0) ↦[restS 1 0]{fullShare} f)) := by
  have h := (pointsTo_union (Ix := Unit) (Name := ℕ) (U := Pipeline.UD sig nD τ) (Lvl := ℕ) (ℓ := (c : Thread nD τ).loc cc0_scratch0) (q := fullShare) (f := f) slots_disj).1
  rw [slots_union] at h
  exact h
theorem slots_join (c : Dev nD) (f g : SBuf F c) :
    iprop((((c : Thread nD τ).loc cc0_scratch0) ↦[restS 0 0]{fullShare} f) ∗ (((c : Thread nD τ).loc cc0_scratch0) ↦[restS 1 0]{fullShare} g))
      ⊢ (iprop(∃ f : SBuf F c, (((c : Thread nD τ).loc cc0_scratch0) ↦{fullShare} f)) : sProp 𝕄) := by
  have h := pointsTo_join (Ix := Unit) (Name := ℕ) (U := Pipeline.UD sig nD τ) (Lvl := ℕ) (ℓ := (c : Thread nD τ).loc cc0_scratch0) (q := fullShare) (f := f) (g := g) slots_disj
  rw [slots_union] at h
  iintro H
  iexists _
  iapply h
  iexact H

theorem phi_first (c : Dev nD) : Pipeline.ΦD osem0 spec0 H0 (V m) c ⊢ (dats m 0 c).Φ 0 := by
  rw [PhiD_eq, show (dats m 0 c).Φ 0 = PhiAt m c 0 from rfl]
  unfold PhiAt Flow Own
  rw [if_pos rfl]
  iintro ⟨⟨⟨%f, HS⟩, HX, ⟨%h, HH⟩⟩, Hg, ⟨Hq0, Hq1⟩, Hx⟩
  ihave HS' := (slots_split c f) $$ HS
  icases HS' with ⟨HS0, HS1⟩
  isplitl [HS0 HS1 Hq0 Hq1 Hx]
  · isplitl [HS0 Hq0]
    · isplitl [HS0]; · iexists f; iexact HS0
      iexact Hq0
    isplitl [HS1 Hq1]
    · isplitl [HS1]; · iexists f; iexact HS1
      iexact Hq1
    iexact Hx
  isplitl [HX]; · iexact HX
  isplitl [HH]
  · iexists h
    isplitr; · ipureintro; rfl
    iexact HH
  iexact Hg

theorem phi_last (c : Dev nD) : (dats m 0 c).Φ (Fin.last cfg0.N) ⊢ Pipeline.ΦD osem0 spec0 H0 (V m) c := by
  rw [PhiD_eq, show (dats m 0 c).Φ (Fin.last cfg0.N) = PhiAt m c grid0.N from rfl, N_0]
  unfold PhiAt Flow Own
  rw [if_pos rfl]
  iintro ⟨⟨⟨⟨%f0, HS0⟩, Hq0⟩, ⟨⟨%f1, HS1⟩, Hq1⟩, Hx⟩, HX, ⟨%h, -, HH⟩, Hg⟩
  isplitl [HS0 HS1 HX HH]
  · isplitl [HS0 HS1]
    · iapply (slots_join c f0 f1)
      isplitl [HS0]; · iexact HS0
      iexact HS1
    isplitl [HX]; · iexact HX
    iexists h; iexact HH
  isplitl [Hg]; · iexact Hg
  isplitl [Hq0 Hq1]
  · isplitl [Hq0]; · iexact Hq0
    iexact Hq1
  iexact Hx

/-- The lines after the region touch neither the operand the transfers read nor anything outside @main. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  intro b hb
  obtain rfl : b = main_arg0 := Finset.mem_singleton.mp hb
  simp only [hostOps1, List.mem_cons, List.mem_nil_iff, or_false] at hop
  rcases hop with rfl | rfl <;>
    simp only [StableHlo.unary_bufs, StableHlo.reshape_bufs, Finset.mem_insert, Finset.mem_singleton, not_or] <;>
    exact ⟨StableHlo.devRef_ne_of_ne (by decide), StableHlo.devRef_ne_of_ne (by decide)⟩

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain m Variants.none) (hA := A_eq m) (hin := phi_first m) (hout := phi_last m)

/-! ## The frame -/

/-- What neither the lines after the region nor the region writes is found as the lines before it left it. -/
theorem tail_keeps (c : Dev nD) (b : Ref sig .tc) (h9 : b ≠ main_v9) (h10 : b ≠ main_v10) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h9, StableHlo.devRef_ne_of_ne h10⟩)),
    Pipeline.withArrays_of_ne _ c (V0 m c) _ b hw]

/-- What the frame run leaves in an argument: what it found there. -/
theorem args_keep (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have key : ∀ b : Ref sig .tc, b ∈ Pipeline.restRefs sig spec0 → b ≠ main_v9 → b ≠ main_v10 → (∀ w, Pipeline.arrRef spec0 w ≠ b) →
      V m c b = m ((c : Thread nD τ).loc b) → r.2.mem ((c.tc : Thread nD τ).loc b) = m ((c.tc : Thread nD τ).loc b) :=
    fun b hb h9 h10 hw hV => ((h c).2 b hb).trans ((tail_keeps m c b h9 h10 hw).trans hV)
  exact ⟨key main_arg0 (Pipeline.mem_restRefs_of _ (by decide) (by decide)) (by decide) (by decide) (by decide) (V_main_arg0 m c),
    key main_arg1 (Pipeline.mem_restRefs_of _ (by decide) (by decide)) (by decide) (by decide) (by decide) (V_main_arg1 m c),
    key main_arg2 (Pipeline.mem_restRefs_of _ (by decide) (by decide)) (by decide) (by decide) (by decide) (V_main_arg2 m c),
    key main_arg3 (Pipeline.mem_restRefs_of _ (by decide) (by decide)) (by decide) (by decide) (by decide) (V_main_arg3 m c),
    key main_arg4 (Pipeline.mem_restRefs_of _ (by decide) (by decide)) (by decide) (by decide) (by decide) (V_main_arg4 m c),
    key main_arg5 (Pipeline.mem_restRefs_of _ (by decide) (by decide)) (by decide) (by decide) (by decide) (V_main_arg5 m c),
    key main_arg6 (Pipeline.mem_restRefs_of _ (by decide) (by decide)) (by decide) (by decide) (by decide) (V_main_arg6 m c)⟩

/-- The frame of the kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_keep m r h.1, h.2⟩) (run_main m ρ)

end Cert.KernelIdeal.Hand
-- ==== Proof.RFrame.lean ====
/- The reference runs to its end, leaves its arguments as they were, and has no semaphore. -/
module

public import proofs.«01_k».proof.Proof.Gen.ReferenceIdeal.Run

@[expose] public section

noncomputable section

namespace Cert.ReferenceIdeal.Hand

open Idealize.ShloMosaic Idealize.ShloMosaic.TcCoe Idealize.SL.Sem
open Cert.ReferenceIdeal

variable {F : FTy → Type} [FloatOps F]

/-- The program has no semaphore at all, so any table of counters is the zero table. -/
theorem counters_zero {α : Type} [Zero α] (s : GSem nD τ sig → α) : s = fun _ => 0 := by
  funext g
  rcases g with ⟨_, l | l⟩ <;> exact l.elim0

/-- Every execution of the reference terminates, with its seven arguments unchanged and every counter at zero. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun _ h => ⟨fun c => (h c).2, counters_zero _⟩) (Value.run m ρ)

end Cert.ReferenceIdeal.Hand

end
-- ==== Proof.Recur.lean ====
/-
  The recurrence both programs compute, over the extended reals: an input projection, a hidden state stepped with the weights of
  the step's segment, and a logistic head.
-/
module

public import Idealize.ShloMosaic.Lib.Pointwise

@[expose] public section

noncomputable section

namespace Cert.Recur

open Idealize.ShloMosaic

/-- The arguments: the input of every sequence and step, and per segment the two weight matrices, the two biases, and the head's
    weights and bias. -/
structure Args where
  x : Fin 256 → Fin 1000 → Fin 256 → EReal
  wih : Fin 10 → Fin 64 → Fin 256 → EReal
  whh : Fin 10 → Fin 64 → Fin 64 → EReal
  bih : Fin 10 → Fin 64 → EReal
  bhh : Fin 10 → Fin 64 → EReal
  fcw : Fin 10 → Fin 64 → EReal
  fcb : Fin 10 → EReal

/-- Step `t` as a position of the input. -/
def tm (t : ℕ) : Fin 1000 := ⟨t % 1000, Nat.mod_lt _ (by decide)⟩
/-- The segment of step `t`. -/
def sg (t : ℕ) : Fin 10 := ⟨t / 100 % 10, Nat.mod_lt _ (by decide)⟩

variable (a : Args)

/-- The hidden state of sequence `b` after `t` steps. -/
def hid (b : Fin 256) : ℕ → Fin 64 → EReal
  | 0 => fun _ => 0
  | t + 1 => fun j => Ideal.tanh (((∑ d : Fin 256, a.x b (tm t) d * a.wih (sg t) j d) + (a.bih (sg t) j + a.bhh (sg t) j))
      + ∑ k : Fin 64, hid b t k * a.whh (sg t) j k)

/-- The logistic function as both programs write it. -/
def squash (y : EReal) : EReal := Ideal.div 1 (1 + Ideal.exp (-y))

/-- The result for sequence `b` at step `t`. -/
def out (b : Fin 256) (t : ℕ) : EReal :=
  squash ((∑ j : Fin 64, hid a b (t + 1) j * a.fcw (sg t) j) + a.fcb (sg t))

end Cert.Recur

end
-- ==== Proof.IMath.lean ====
/-
  One segment of the kernel over the extended reals: the projected rows, the hidden states of its hundred steps, and the columns
  of the output block, each read at an index.
-/
module

public import proofs.«01_k».proof.Proof.ICompute
public import proofs.«01_k».proof.Proof.Recur
public import Idealize.ShloMosaic.Lib.Pointwise

@[expose] public section

noncomputable section

namespace Cert.KernelIdeal.Hand

open Cert.KernelIdeal Cert.KernelIdeal.Gen
open Idealize.ShloMosaic

/-- The product of the hidden state with the combined weights. -/
theorem pay9_at (wcv : Vec Ideal S1x64x128 .f32) (h : Vec Ideal S128x64 .f32) (r l : Fin 128) :
    k0_pay9 (F := Ideal) wcv h (ix2 r l) = ∑ k : Fin 64, h (ix2 r k) * wcv (ix3 0 k l) := by
  pointwise [k0_pay9, k0_pay7]

/-- A step's product: the new hidden state with the combined weights. -/
theorem pay10_at (wcv : Vec Ideal S1x64x128 .f32) (z : FVec Ideal S128x128 .f32) (x : Vec Ideal S128x64 .f32) (r l : Fin 128) :
    k0_pay10 (F := Ideal) (k0_pay7 wcv) z x (ix2 r l)
      = ∑ k : Fin 64, Ideal.tanh (x (ix2 r k) + z (ix2 r (⟨k.val, by omega⟩ : Fin 128))) * wcv (ix3 0 k l) := by
  pointwise [k0_pay10, k0_pay7]

/-- The hidden state a step makes. -/
theorem pay3_at (z : FVec Ideal S128x128 .f32) (x : Vec Ideal S128x64 .f32) (r : Fin 128) (k : Fin 64) :
    k0_pay3 (F := Ideal) z x (ix2 r k) = Ideal.tanh (x (ix2 r k) + z (ix2 r (⟨k.val, by omega⟩ : Fin 128))) := by
  pointwise [k0_pay3, k0_pay2]

/-- The head's column of a step, from the product that follows it. -/
theorem pay20_at (fcv : Vec Ideal S1x1x1 .f32) (z : FVec Ideal S128x128 .f32) (r : Fin 128) :
    k0_pay20 (F := Ideal) (k0_pay8 fcv) z (ix3 0 r 0) = Recur.squash (z (ix2 r 64) + fcv (ix3 0 0 0)) := by
  pointwise [k0_pay20, k0_pay8, Recur.squash]
  rw [sub_eq_add_neg, zero_add]

/-- The head's column of the last step. -/
theorem pay4_at (wcv : Vec Ideal S1x64x128 .f32) (fcv : Vec Ideal S1x1x1 .f32) (z : FVec Ideal S128x128 .f32) (x : Vec Ideal S128x64 .f32) (r : Fin 128) :
    k0_pay4 (F := Ideal) (k0_pay7 wcv) (k0_pay8 fcv) z x (ix3 0 r 0)
      = Recur.squash ((∑ k : Fin 64, Ideal.tanh (x (ix2 r k) + z (ix2 r (⟨k.val, by omega⟩ : Fin 128))) * wcv (ix3 0 k 64)) + fcv (ix3 0 0 0)) := by
  pointwise [k0_pay4, k0_pay2, k0_pay7, k0_pay8, Recur.squash]
  rw [sub_eq_add_neg, zero_add]

/-- The state a block of sequences starts from. -/
theorem pay5_at (r : Fin 128) (k : Fin 64) : k0_pay5 (F := Ideal) (ix2 r k) = 0 := by
  pointwise [k0_pay5]

/-- A row of the projected segment. -/
theorem pay6_at (seg : Vec Ideal S1x100x128x256 .f32) (wih : Vec Ideal S1x256x64 .f32) (bias : Vec Ideal S1x1x64 .f32) (q : Fin 12800) (j : Fin 64) :
    k0_pay6 (F := Ideal) seg wih bias (ix2 q j)
      = (∑ d : Fin 256, seg (ix4 0 (⟨q.val / 128, by omega⟩ : Fin 100) (⟨q.val % 128, by omega⟩ : Fin 128) d) * wih (ix3 0 d j)) + bias (ix3 0 0 j) := by
  pointwise [k0_pay6]

/-- The hidden states of a segment's steps. -/
def hseg (wcv : Vec Ideal S1x64x128 .f32) (xp : Vec Ideal S12800x64 .f32) (h : Vec Ideal S128x64 .f32) (r : Fin 128) : ℕ → Fin 64 → EReal
  | 0 => fun k => h (ix2 r k)
  | t + 1 => fun j => Ideal.tanh (xrow xp t (ix2 r j) + ∑ k : Fin 64, hseg wcv xp h r t k * wcv (ix3 0 k (⟨j.val, by omega⟩ : Fin 128)))

/-- The kernel's product before step `t` is that step's hidden state times the combined weights. -/
theorem zAt_at (wcv : Vec Ideal S1x64x128 .f32) (xp : Vec Ideal S12800x64 .f32) (h : Vec Ideal S128x64 .f32) (r : Fin 128) :
    ∀ (t : ℕ) (l : Fin 128), zAt wcv xp h t (ix2 r l) = ∑ k : Fin 64, hseg wcv xp h r t k * wcv (ix3 0 k l)
  | 0, l => pay9_at wcv h r l
  | t + 1, l => by
    rw [show zAt wcv xp h (t + 1) = k0_pay10 (k0_pay7 wcv) (zAt wcv xp h t) (xrow xp t) from rfl, pay10_at]
    refine Finset.sum_congr rfl fun k _ => ?_
    rw [zAt_at wcv xp h r t]; rfl

/-- The hidden state after the segment. -/
theorem hNext_at (wcv : Vec Ideal S1x64x128 .f32) (xp : Vec Ideal S12800x64 .f32) (h : Vec Ideal S128x64 .f32) (r : Fin 128) (k : Fin 64) :
    hNext wcv xp h (ix2 r k) = hseg wcv xp h r 100 k := by
  unfold hNext
  rw [pay3_at, zAt_at]; rfl

/-- The column stored at step `t`: the head of the hidden state after it. -/
theorem colY_at (wcv : Vec Ideal S1x64x128 .f32) (fcv : Vec Ideal S1x1x1 .f32) (xp : Vec Ideal S12800x64 .f32) (h : Vec Ideal S128x64 .f32)
    (t : ℕ) (ht : t < 100) (r : Fin 128) :
    colY wcv fcv xp h t (ix3 0 r 0) = Recur.squash ((∑ k : Fin 64, hseg wcv xp h r (t + 1) k * wcv (ix3 0 k 64)) + fcv (ix3 0 0 0)) := by
  unfold colY
  by_cases h99 : t < 99
  · rw [if_pos h99, pay20_at, zAt_at]
  · obtain rfl : t = 99 := by omega
    rw [if_neg h99, pay4_at]
    simp only [zAt_at]; rfl

end Cert.KernelIdeal.Hand

end
-- ==== Proof.IRead.lean ====
/-
  What the kernel's grid points read: the arrays the host prepares, and each window's block at a point, entry by entry in terms of
  the program's arguments.
-/
module

public import proofs.«01_k».proof.Proof.IFrame
public import proofs.«01_k».proof.Proof.IMath

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ)

abbrev X0 (c : Dev nD) : Vec Ideal S256x1000x256 .f32 := m ((c : Thread nD τ).loc main_arg0)
abbrev X1 (c : Dev nD) : Vec Ideal S10x64x256 .f32 := m ((c : Thread nD τ).loc main_arg1)
abbrev X2 (c : Dev nD) : Vec Ideal S10x64x64 .f32 := m ((c : Thread nD τ).loc main_arg2)
abbrev X3 (c : Dev nD) : Vec Ideal S10x64 .f32 := m ((c : Thread nD τ).loc main_arg3)
abbrev X4 (c : Dev nD) : Vec Ideal S10x64 .f32 := m ((c : Thread nD τ).loc main_arg4)
abbrev X5 (c : Dev nD) : Vec Ideal S10x64 .f32 := m ((c : Thread nD τ).loc main_arg5)
abbrev X6 (c : Dev nD) : Vec Ideal S10 .f32 := m ((c : Thread nD τ).loc main_arg6)

/-- The program's arguments as the recurrence takes them. -/
def args (c : Dev nD) : Recur.Args where
  x b t d := X0 m c (ix3 b t d)
  wih s j d := X1 m c (ix3 s j d)
  whh s j k := X2 m c (ix3 s j k)
  bih s j := X3 m c (ix2 s j)
  bhh s j := X4 m c (ix2 s j)
  fcw s j := X5 m c (ix2 s j)
  fcb s := X6 m c (ix1 s)

/-! ## The arrays the host prepares -/

theorem host_v0 (c : Dev nD) : V m c main_v0 = transpose S10x256x64 [0, 2, 1] (X1 m c) transposes_S10x64x256_S10x256x64_0_2_1 := by
  show StableHlo.after (List.flatten [hostOps0]) _ _ = _
  simp only [List.flatten_cons, List.flatten_nil, List.append_nil]
  after_results

theorem host_v4 (c : Dev nD) : V m c main_v4 = concatenate S10x64x128 2 [⟨S10x64x64, transpose S10x64x64 [0, 2, 1] (X2 m c) transposes_S10x64x64_S10x64x64_0_2_1⟩,
    ⟨S10x64x1, broadcastInDim S10x64x1 ![0, 1] bcast_S10x64_S10x64x1_0_1 (X5 m c)⟩,
    ⟨S10x64x63, broadcastInDim S10x64x63 ![] bcast_S_S10x64x63 (constant (F := Ideal) S_ .f32 0x00000000#32)⟩] concatenates_S10x64x64_S10x64x1_S10x64x63_S10x64x128_d2 := by
  show StableHlo.after (List.flatten [hostOps0]) _ _ = _
  simp only [List.flatten_cons, List.flatten_nil, List.append_nil]
  after_results
  rfl

theorem host_v6 (c : Dev nD) : (V m c main_v6 : FVec Ideal S10x1x64 .f32) = broadcastInDim S10x1x64 ![0, 2] bcast_S10x64_S10x1x64_0_2 (addf (F := Ideal) (φ := .f32) (X3 m c : FVec Ideal S10x64 .f32) (X4 m c : FVec Ideal S10x64 .f32)) := by
  show StableHlo.after (List.flatten [hostOps0]) _ _ = _
  simp only [List.flatten_cons, List.flatten_nil, List.append_nil]
  after_results

theorem host_v7 (c : Dev nD) : V m c main_v7 = broadcastInDim S10x1x1 ![0] bcast_S10_S10x1x1_0 (X6 m c) := by
  show StableHlo.after (List.flatten [hostOps0]) _ _ = _
  simp only [List.flatten_cons, List.flatten_nil, List.append_nil]
  after_results

theorem v0_at (c : Dev nD) (s : Fin 10) (d : Fin 256) (j : Fin 64) :
    (V m c main_v0 : Vec Ideal S10x256x64 .f32) (ix3 s d j) = (args m c).wih s j d := by
  rw [host_v0]; pointwise [args]
theorem v4_at (c : Dev nD) (s : Fin 10) (k j : Fin 64) :
    (V m c main_v4 : Vec Ideal S10x64x128 .f32) (ix3 s k (⟨j.val, by omega⟩ : Fin 128)) = (args m c).whh s j k := by
  rw [host_v4]; pointwise [args]
theorem v4_at_head (c : Dev nD) (s : Fin 10) (k : Fin 64) :
    (V m c main_v4 : Vec Ideal S10x64x128 .f32) (ix3 s k 64) = (args m c).fcw s k := by
  rw [host_v4]; pointwise [args]
theorem v6_at (c : Dev nD) (s : Fin 10) (j : Fin 64) :
    (V m c main_v6 : Vec Ideal S10x1x64 .f32) (ix3 s 0 j) = (args m c).bih s j + (args m c).bhh s j := by
  rw [host_v6]; pointwise [args]
theorem v7_at (c : Dev nD) (s : Fin 10) :
    (V m c main_v7 : Vec Ideal S10x1x1 .f32) (ix3 s 0 0) = (args m c).fcb s := by
  rw [host_v7]; pointwise [args]

/-! ## The blocks of a grid point -/

/-- The segment of grid point `k`. -/
def sgk (k : ℕ) : Fin 10 := ⟨k % 10, Nat.mod_lt _ (by decide)⟩

theorem pt_seg (k : ℕ) : (grid0.coords (pt k) 1).val = k % 10 := by
  rw [coords_s]; show k % 20 % 10 = k % 10; omega

theorem index0 : ∀ t : Fin cfg0.N, win0_0.index t 0 = (grid0.coords t 1).val ∧ win0_0.index t 1 = 0 ∧ win0_0.index t 2 = 0 := by decide +kernel
theorem index1 : ∀ t : Fin cfg0.N, win0_1.index t 0 = (grid0.coords t 1).val ∧ win0_1.index t 1 = 0 ∧ win0_1.index t 2 = 0 := by decide +kernel
theorem index2 : ∀ t : Fin cfg0.N, win0_2.index t 0 = (grid0.coords t 1).val ∧ win0_2.index t 1 = 0 ∧ win0_2.index t 2 = 0 := by decide +kernel
theorem index3 : ∀ t : Fin cfg0.N, win0_3.index t 0 = (grid0.coords t 1).val ∧ win0_3.index t 1 = 0 ∧ win0_3.index t 2 = 0 := by decide +kernel

theorem wih_at (c : Dev nD) (k : ℕ) (d : Fin 256) (j : Fin 64) : wihB m c k (ix3 0 d j) = (args m c).wih (sgk k) j d := by
  refine Eq.trans ?_ (v0_at m c (sgk k) d j)
  show (V m c main_v0 : Vec Ideal S10x256x64 .f32) (((cfg0.win 0).blk (pt k)).view.emb (ix3 0 d j)) = _
  congr 1
  obtain ⟨e0, e1, e2⟩ := index0 (pt k)
  rw [pt_seg] at e0
  funext a; apply Fin.ext
  match a with
  | ⟨0, _⟩ => show win0_0.index (pt k) 0 * 1 + 1 * 0 = k % 10; omega
  | ⟨1, _⟩ => show win0_0.index (pt k) 1 * 256 + 1 * d.val = d.val; omega
  | ⟨2, _⟩ => show win0_0.index (pt k) 2 * 64 + 1 * j.val = j.val; omega

theorem wc_emb (k : ℕ) (d : Fin 64) (j : Fin 128) : ((cfg0.win 1).blk (pt k)).view.emb (ix3 0 d j : S1x64x128.Idx) = (ix3 (sgk k) d j : S10x64x128.Idx) := by
  obtain ⟨e0, e1, e2⟩ := index1 (pt k)
  rw [pt_seg] at e0
  funext a; apply Fin.ext
  match a with
  | ⟨0, _⟩ => show win0_1.index (pt k) 0 * 1 + 1 * 0 = k % 10; omega
  | ⟨1, _⟩ => show win0_1.index (pt k) 1 * 64 + 1 * d.val = d.val; omega
  | ⟨2, _⟩ => show win0_1.index (pt k) 2 * 128 + 1 * j.val = j.val; omega

theorem whh_at (c : Dev nD) (k : ℕ) (d j : Fin 64) : wcB m c k (ix3 0 d (⟨j.val, by omega⟩ : Fin 128)) = (args m c).whh (sgk k) j d :=
  (congrArg (V m c main_v4 : Vec Ideal S10x64x128 .f32) (wc_emb k d _)).trans (v4_at m c (sgk k) d j)

theorem fcw_at (c : Dev nD) (k : ℕ) (d : Fin 64) : wcB m c k (ix3 0 d 64) = (args m c).fcw (sgk k) d :=
  (congrArg (V m c main_v4 : Vec Ideal S10x64x128 .f32) (wc_emb k d _)).trans (v4_at_head m c (sgk k) d)

theorem bias_at (c : Dev nD) (k : ℕ) (j : Fin 64) : biasB m c k (ix3 0 0 j) = (args m c).bih (sgk k) j + (args m c).bhh (sgk k) j := by
  refine Eq.trans ?_ (v6_at m c (sgk k) j)
  show (V m c main_v6 : Vec Ideal S10x1x64 .f32) (((cfg0.win 2).blk (pt k)).view.emb (ix3 0 0 j)) = _
  congr 1
  obtain ⟨e0, e1, e2⟩ := index2 (pt k)
  rw [pt_seg] at e0
  funext a; apply Fin.ext
  match a with
  | ⟨0, _⟩ => show win0_2.index (pt k) 0 * 1 + 1 * 0 = k % 10; omega
  | ⟨1, _⟩ => show win0_2.index (pt k) 1 * 1 + 1 * 0 = 0; omega
  | ⟨2, _⟩ => show win0_2.index (pt k) 2 * 64 + 1 * j.val = j.val; omega

theorem fcb_at (c : Dev nD) (k : ℕ) : fcB m c k (ix3 0 0 0) = (args m c).fcb (sgk k) := by
  refine Eq.trans ?_ (v7_at m c (sgk k))
  show (V m c main_v7 : Vec Ideal S10x1x1 .f32) (((cfg0.win 3).blk (pt k)).view.emb (ix3 0 0 0)) = _
  congr 1
  obtain ⟨e0, e1, e2⟩ := index3 (pt k)
  rw [pt_seg] at e0
  funext a; apply Fin.ext
  match a with
  | ⟨0, _⟩ => show win0_3.index (pt k) 0 * 1 + 1 * 0 = k % 10; omega
  | ⟨1, _⟩ => show win0_3.index (pt k) 1 * 1 + 1 * 0 = 0; omega
  | ⟨2, _⟩ => show win0_3.index (pt k) 2 * 1 + 1 * 0 = 0; omega

end Cert.KernelIdeal.Hand

end
-- ==== Proof.IValue.lean ====
/-
  The kernel's result: every entry of the array it returns is the recurrence's output for that sequence and step.
-/
module

public import proofs.«01_k».proof.Proof.IRead

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)
open Idealize.ShloMosaic.StableHlo Idealize.SL.Sem

variable (m : (ℓ : Loc nD τ sig) → Buf (Elt Ideal) ℓ) (ρ : Dev nD → PrngReg)

/-! ## The recurrence at a grid point -/

/-- The sequence in row `r` of grid point `k`. -/
def sq (k : ℕ) (r : Fin 128) : Fin 256 := ⟨(128 * (k / 10) + r.val) % 256, Nat.mod_lt _ (by decide)⟩

theorem sg_step (k t : ℕ) (ht : t < 100) : Recur.sg (100 * (k % 10) + t) = sgk k :=
  Fin.ext (by show (100 * (k % 10) + t) / 100 % 10 = k % 10; omega)

/-- The projected segment: row `r` of step `t` is the input projection of its sequence at its step. -/
theorem xp_at (c : Dev nD) (k t : ℕ) (ht : t < 100) (r : Fin 128) (j : Fin 64) :
    xrow (xpB m c k) t (ix2 r j) = (∑ d : Fin 256, (args m c).x (sq k r) (Recur.tm (100 * (k % 10) + t)) d * (args m c).wih (sgk k) j d)
      + ((args m c).bih (sgk k) j + (args m c).bhh (sgk k) j) := by
  have hr : r.val < 128 := r.isLt
  show xpB m c k (ix2 (⟨(128 * t + r.val) % 12800, _⟩ : Fin 12800) j) = _
  unfold xpB
  rw [pay6_at, bias_at]
  congr 1
  refine Finset.sum_congr rfl fun d _ => ?_
  rw [wih_at]
  congr 1
  show (V m c main_arg0 : Vec Ideal S256x1000x256 .f32) _ = X0 m c _
  rw [V_main_arg0]
  congr 1
  funext a; apply Fin.ext
  match a with
  | ⟨0, _⟩ => show (128 * (k / 10) + (128 * t + r.val) % 12800 % 128) % 256 = (128 * (k / 10) + r.val) % 256; omega
  | ⟨1, _⟩ => show (100 * (k % 10) + (128 * t + r.val) % 12800 / 128) % 1000 = (100 * (k % 10) + t) % 1000; omega
  | ⟨2, _⟩ => rfl

/-- Within a grid point the hidden states are the recurrence's, when the one it starts from is. -/
theorem hseg_hid (c : Dev nD) (k : ℕ) (r : Fin 128) (h : Vec Ideal S128x64 .f32)
    (h0 : ∀ j, h (ix2 r j) = Recur.hid (args m c) (sq k r) (100 * (k % 10)) j) :
    ∀ t, t ≤ 100 → ∀ j, hseg (wcB m c k) (xpB m c k) h r t j = Recur.hid (args m c) (sq k r) (100 * (k % 10) + t) j
  | 0, _, j => h0 j
  | t + 1, ht, j => by
    have ih := hseg_hid c k r h h0 t (by omega)
    show Ideal.tanh (xrow (xpB m c k) t (ix2 r j) + ∑ i : Fin 64, hseg (wcB m c k) (xpB m c k) h r t i * wcB m c k (ix3 0 i (⟨j.val, by omega⟩ : Fin 128)))
      = Recur.hid (args m c) (sq k r) ((100 * (k % 10) + t) + 1) j
    rw [xp_at m c k t (by omega)]
    simp only [ih, whh_at]
    rw [Recur.hid, sg_step k t (by omega)]

/-- Every grid point starts from the recurrence's hidden state. -/
theorem hIn_hid (c : Dev nD) : ∀ (k : ℕ) (r : Fin 128) (j : Fin 64),
    hIn m c k (ix2 r j) = Recur.hid (args m c) (sq k r) (100 * (k % 10)) j
  | 0, r, j => by
    show (if 0 % 10 = 0 then k0_pay5 else hSt m c 0) (ix2 r j) = _
    rw [if_pos rfl, pay5_at]; rfl
  | k + 1, r, j => by
    unfold hIn
    by_cases h : (k + 1) % 10 = 0
    · rw [if_pos h, pay5_at, h]; rfl
    · rw [if_neg h]
      show hNext (wcB m c k) (xpB m c k) (hIn m c k) (ix2 r j) = _
      rw [hNext_at, hseg_hid m c k r _ (fun i => hIn_hid c k r i) 100 le_rfl,
        show 100 * ((k + 1) % 10) = 100 * (k % 10) + 100 by omega,
        show sq (k + 1) r = sq k r from Fin.ext (by show (128 * ((k + 1) / 10) + r.val) % 256 = (128 * (k / 10) + r.val) % 256; omega)]

/-- The output block of a grid point. -/
theorem outB_at (c : Dev nD) (k t : ℕ) (ht : t < 100) (r : Fin 128) :
    colY (wcB m c k) (fcB m c k) (xpB m c k) (hIn m c k) t (ix3 0 r 0) = Recur.out (args m c) (sq k r) (100 * (k % 10) + t) := by
  rw [colY_at _ _ _ _ t ht, fcb_at]
  unfold Recur.out
  rw [sg_step k t ht]
  congr 2
  refine Finset.sum_congr rfl fun j _ => ?_
  rw [fcw_at, hseg_hid m c k r _ (hIn_hid m c k r) (t + 1) (by omega)]; rfl

/-! ## The result array -/

/-- The array the launch fills: segment, sequence, step within the segment. -/
def segOut (c : Dev nD) : Vec Ideal S10x256x100 .f32 := fun i =>
  Recur.out (args m c) (⟨(i 1).val, (i 1).isLt⟩ : Fin 256) (100 * (i 0).val + (i 2).val)

theorem index4 : ∀ t : Fin cfg0.N, win0_4.index t 0 = (grid0.coords t 1).val ∧ win0_4.index t 1 = (grid0.coords t 0).val ∧ win0_4.index t 2 = 0 := by decide +kernel

theorem emb4 (t : Fin cfg0.N) (y : S1x128x100.Idx) :
    ((((cfg0.win 4).blk t).view.emb y : S10x256x100.Idx) 0).val = t.val % 10
    ∧ ((((cfg0.win 4).blk t).view.emb y : S10x256x100.Idx) 1).val = 128 * (t.val / 10) + (y 1).val
    ∧ ((((cfg0.win 4).blk t).view.emb y : S10x256x100.Idx) 2).val = (y 2).val := by
  obtain ⟨e0, e1, e2⟩ := index4 t
  rw [coords_s] at e0
  rw [coords_b] at e1
  have h0 : (y 0).val < 1 := (y 0).isLt
  refine ⟨?_, ?_, ?_⟩
  · show win0_4.index t 0 * 1 + 1 * (y 0).val = _; omega
  · show win0_4.index t 1 * 128 + 1 * (y 1).val = _; omega
  · show win0_4.index t 2 * 100 + 1 * (y 2).val = _; omega

theorem flushed4 (c : Dev nD) (t : Fin cfg0.N) :
    (dats m 0 c).flushed 4 t = ((cfg0.win 4).blk t).view.read (Elt Ideal) (segOut m c) := by
  have ht : t.val < 20 := by have h : t.val < grid0.N := t.isLt; rwa [N_0] at h
  funext y
  show (dats m 0 c).after 4 t y = segOut m c (((cfg0.win 4).blk t).view.emb y)
  obtain ⟨e0, e1, e2⟩ := emb4 t y
  have h1 : (y 1).val < 128 := (y 1).isLt
  have h2 : (y 2).val < 100 := (y 2).isLt
  rw [after0_4]
  refine (outB_at m c t.val (y 2).val h2 (⟨(y 1).val, h1⟩ : Fin 128)).trans ?_
  exact congrArg₂ (Recur.out (args m c)) (Fin.ext (by show (128 * (t.val / 10) + (y 1).val) % 256 = _; rw [e1]; omega))
    (by show _ = 100 * _ + _; rw [e0, e2])

theorem covered4 (i : S10x256x100.Idx) : ∃ t : Fin cfg0.N, (cfg0.win 4).flush t = true ∧ i ∈ ((cfg0.win 4).blk t).view.set := by
  have h0 : (i 0).val < 10 := (i 0).isLt
  have h1 : (i 1).val < 256 := (i 1).isLt
  have h2 : (i 2).val < 100 := (i 2).isLt
  let t : Fin cfg0.N := ⟨10 * ((i 1).val / 128) + (i 0).val, by show _ < grid0.N; rw [N_0]; omega⟩
  let y : S1x128x100.Idx := ix3 0 (⟨(i 1).val % 128, Nat.mod_lt _ (by decide)⟩ : Fin 128) (⟨(i 2).val, h2⟩ : Fin 100)
  refine ⟨t, flush0_4 t, ?_⟩
  have e : ((cfg0.win 4).blk t).view.emb y = i := by
    obtain ⟨e0, e1, e2⟩ := emb4 t y
    funext a; apply Fin.ext
    match a with
    | ⟨0, _⟩ => exact e0.trans (by show (10 * ((i 1).val / 128) + (i 0).val) % 10 = (i 0).val; omega)
    | ⟨1, _⟩ => exact e1.trans (by show 128 * ((10 * ((i 1).val / 128) + (i 0).val) / 10) + (i 1).val % 128 = (i 1).val; omega)
    | ⟨2, _⟩ => exact e2
  rw [← e]
  exact ((cfg0.win 4).blk t).view.emb_mem_set y

/-- The array the launch leaves. -/
theorem final4 (c : Dev nD) : (dats m 0 c).arrAt 4 cfg0.N = segOut m c :=
  (dats m 0 c).arrAt_eq_of_cover 4 (segOut m c) (fun t _ => flushed4 m c t) covered4

/-- The result: sequence, step. -/
def result (c : Dev nD) : Vec Ideal S256x1000x1 .f32 := fun i =>
  Recur.out (args m c) (⟨(i 0).val, (i 0).isLt⟩ : Fin 256) (i 1).val

theorem tail_v10 (c : Dev nD) : Pipeline.afterTail₀ cfgs (dats m) 0 (V0 m) [hostOps1] c main_v10 = result m c := by
  have e : Pipeline.afterTail₀ cfgs (dats m) 0 (V0 m) [hostOps1] c main_v10
      = (shapeCast S256x1000x1 (transpose S256x10x100 [1, 0, 2] (segOut m c) transposes_S10x256x100_S256x10x100_1_0_2) shapeCasts_S256x10x100_S256x1000x1) := by
    unfold Pipeline.afterTail₀
    simp only [List.flatten_cons, List.flatten_nil, List.append_nil]
    after_results
    exact congrArg (fun Z : Vec Ideal S10x256x100 .f32 => shapeCast S256x1000x1 (transpose S256x10x100 [1, 0, 2] Z transposes_S10x256x100_S256x10x100_1_0_2) shapeCasts_S256x10x100_S256x1000x1)
      ((Pipeline.withArrays_arr spec0 launch0.win.arr_inj c (V0 m c) (fun w => (dats m 0 c).arrAt w cfg0.N) 4).trans (final4 m c))
  rw [e]
  funext i
  obtain ⟨b, t, z, rfl⟩ : ∃ (b : Fin 256) (t : Fin 1000) (z : Fin 1), i = ix3 b t z := ⟨i 0, i 1, i 2, by funext a; match a with | ⟨0, _⟩ => rfl | ⟨1, _⟩ => rfl | ⟨2, _⟩ => rfl⟩
  pointwise [segOut, result]
  rw [Nat.div_add_mod]

/-- The run of the kernel with its result and its arguments. -/
theorem run_value : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).2 main_v10 (Pipeline.mem_restRefs_of _ (by decide) (by decide))).trans (tail_v10 m c), args_keep m r h.1 c⟩)
    (run_main m ρ)

end Cert.KernelIdeal.Hand

end
-- ==== Proof.RStep.lean ====
/-
  The reference, entry by entry: what its loop starts from, what one trip makes of it, and what it returns.
-/
module

public import proofs.«01_k».proof.Proof.Gen.ReferenceIdeal.Run
public import proofs.«01_k».proof.Proof.Recur
public import Idealize.ShloMosaic.Lib.DynamicIndex
public import Idealize.ShloMosaic.Lib.WordCmp

@[expose] public section

set_option maxRecDepth 65536

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.ShloMosaic.StableHlo Idealize.ShloMosaic.HostLoop

variable (m : (ℓ : Loc nD τ sig) → Buf (Elt Ideal) ℓ)

abbrev X0 (c : Dev nD) : Vec Ideal S256x1000x256 .f32 := m ((c : Thread nD τ).loc main_arg0)
abbrev X1 (c : Dev nD) : Vec Ideal S10x64x256 .f32 := m ((c : Thread nD τ).loc main_arg1)
abbrev X2 (c : Dev nD) : Vec Ideal S10x64x64 .f32 := m ((c : Thread nD τ).loc main_arg2)
abbrev X3 (c : Dev nD) : Vec Ideal S10x64 .f32 := m ((c : Thread nD τ).loc main_arg3)
abbrev X4 (c : Dev nD) : Vec Ideal S10x64 .f32 := m ((c : Thread nD τ).loc main_arg4)
abbrev X5 (c : Dev nD) : Vec Ideal S10x64 .f32 := m ((c : Thread nD τ).loc main_arg5)
abbrev X6 (c : Dev nD) : Vec Ideal S10 .f32 := m ((c : Thread nD τ).loc main_arg6)

/-- The program's arguments as the recurrence takes them. -/
def args (c : Dev nD) : Recur.Args where
  x b t d := X0 m c (ix3 b t d)
  wih s j d := X1 m c (ix3 s j d)
  whh s j k := X2 m c (ix3 s j k)
  bih s j := X3 m c (ix2 s j)
  bhh s j := X4 m c (ix2 s j)
  fcw s j := X5 m c (ix2 s j)
  fcb s := X6 m c (ix1 s)

/-- What the buffers hold when the loop starts. -/
abbrev E0 (c : Dev nD) : Valuation τ sig (Elt Ideal) := entryContents preI m c

/-! The loop's buffers at an index. -/

variable (V : Valuation τ sig (Elt Ideal))

abbrev proj (t : Fin 1000) (b : Fin 256) (j : Fin 64) : EReal := (V (Proc.devRef .tc main_v16_0) : Vec Ideal S1000x256x64 .f32) (ix3 t b j)
abbrev rec (t : Fin 1000) (j k : Fin 64) : EReal := (V (Proc.devRef .tc main_v16_1) : Vec Ideal S1000x64x64 .f32) (ix3 t j k)
abbrev bias (t : Fin 1000) (j : Fin 64) : EReal := (V (Proc.devRef .tc main_v16_2) : Vec Ideal S1000x64 .f32) (ix2 t j)
abbrev cur (b : Fin 256) (j : Fin 64) : EReal := (V (Proc.devRef .tc main_v16_4) : Vec Ideal S256x64 .f32) (ix2 b j)
abbrev rows (t : Fin 1000) (b : Fin 256) (j : Fin 64) : EReal := (V (Proc.devRef .tc main_v16_5) : Vec Ideal S1000x256x64 .f32) (ix3 t b j)
abbrev head (s : Fin 10) (j : Fin 64) : EReal := (V (Proc.devRef .tc main_arg5) : Vec Ideal S10x64 .f32) (ix2 s j)
abbrev headBias (s : Fin 10) : EReal := (V (Proc.devRef .tc main_arg6) : Vec Ideal S10 .f32) (ix1 s)
/-- The hidden state a trip makes. -/
abbrev nxt (b : Fin 256) (j : Fin 64) : EReal := (res_main_while0b_v40 V : Vec Ideal S256x64 .f32) (ix2 b j)

theorem sg_eq (t : Fin 1000) (h : t.val / 100 < 10) : (⟨t.val / 100, h⟩ : Fin 10) = Recur.sg t.val :=
  Fin.ext (Nat.mod_eq_of_lt h).symm
theorem tm_eq (t : Fin 1000) (h : t.val / 100 * 100 + t.val % 100 < 1000) : (⟨t.val / 100 * 100 + t.val % 100, h⟩ : Fin 1000) = Recur.tm t.val :=
  Fin.ext (by show t.val / 100 * 100 + t.val % 100 = t.val % 1000; have := t.isLt; omega)

/-! ## The loop's entry -/

/-- The projected input with its bias. -/
theorem entry_proj (c : Dev nD) (t : Fin 1000) (b : Fin 256) (j : Fin 64) :
    proj (E0 m c) t b j
      = (∑ d : Fin 256, (args m c).x b (Recur.tm t.val) d * (args m c).wih (Recur.sg t.val) j d) + (args m c).bih (Recur.sg t.val) j := by
  simp only [proj, E0, entryContents, afterL_cons, afterL_nil]
  after_reads_simp
  simp only [id_eq]
  pointwise [args]
  simp only [sg_eq, tm_eq]

/-- The recurrent weights of each step. -/
theorem entry_rec (c : Dev nD) (t : Fin 1000) (j k : Fin 64) : rec (E0 m c) t j k = (args m c).whh (Recur.sg t.val) j k := by
  simp only [rec, E0, entryContents, afterL_cons, afterL_nil]
  after_reads_simp
  simp only [id_eq]
  pointwise [args]
  simp only [sg_eq]

/-- The recurrent bias of each step. -/
theorem entry_bias (c : Dev nD) (t : Fin 1000) (j : Fin 64) : bias (E0 m c) t j = (args m c).bhh (Recur.sg t.val) j := by
  simp only [bias, E0, entryContents, afterL_cons, afterL_nil]
  after_reads_simp
  simp only [id_eq]
  pointwise [args]
  simp only [sg_eq]

/-- The first hidden state. -/
theorem entry_cur (c : Dev nD) (b : Fin 256) (j : Fin 64) : cur (E0 m c) b j = 0 := by
  simp only [cur, E0, entryContents, afterL_cons, afterL_nil]
  after_reads_simp
  simp only [id_eq]
  pointwise []

/-! ## One trip -/

theorem fits3 (p q k : ℕ) (hk : k < 1000) : (⟨3, ![1000, p, q]⟩ : Shape).Slices ![k, 0, 0] ⟨3, ![1, p, q]⟩ :=
  ⟨rfl, fun a => by
    match a with
    | ⟨0, _⟩ => exact Nat.succ_le_of_lt hk
    | ⟨1, _⟩ => exact (Nat.zero_add p).le
    | ⟨2, _⟩ => exact (Nat.zero_add q).le⟩
theorem fits2 (p k : ℕ) (hk : k < 1000) : (⟨2, ![1000, p]⟩ : Shape).Slices ![k, 0] ⟨2, ![1, p]⟩ :=
  ⟨rfl, fun a => by
    match a with
    | ⟨0, _⟩ => exact Nat.succ_le_of_lt hk
    | ⟨1, _⟩ => exact (Nat.zero_add p).le⟩

theorem slice3 {α : Type} (p q k : ℕ) (hk : k < 1000) (x : (⟨3, ![1000, p, q]⟩ : Shape).Idx → α) (st : Fin 3 → ℤ)
    (h : (⟨3, ![1000, p, q]⟩ : Shape).Slices (fun _ => 0) ⟨3, ![1, p, q]⟩) (e0 : st 0 = k) (e1 : st 1 = 0) (e2 : st 2 = 0) :
    Host.dynamicSlice ⟨3, ![1, p, q]⟩ x st h = extractStridedSlice ⟨3, ![1, p, q]⟩ ![k, 0, 0] x (fits3 p q k hk) :=
  Host.dynamicSlice_eq_extractStridedSlice _ x st ![k, 0, 0] h (fits3 p q k hk)
    (fun a => by match a with | ⟨0, _⟩ => exact e0 | ⟨1, _⟩ => exact e1 | ⟨2, _⟩ => exact e2)

theorem slice2 {α : Type} (p k : ℕ) (hk : k < 1000) (x : (⟨2, ![1000, p]⟩ : Shape).Idx → α) (st : Fin 2 → ℤ)
    (h : (⟨2, ![1000, p]⟩ : Shape).Slices (fun _ => 0) ⟨2, ![1, p]⟩) (e0 : st 0 = k) (e1 : st 1 = 0) :
    Host.dynamicSlice ⟨2, ![1, p]⟩ x st h = extractStridedSlice ⟨2, ![1, p]⟩ ![k, 0] x (fits2 p k hk) :=
  Host.dynamicSlice_eq_extractStridedSlice _ x st ![k, 0] h (fits2 p k hk)
    (fun a => by match a with | ⟨0, _⟩ => exact e0 | ⟨1, _⟩ => exact e1)

theorem update3 {α : Type} (p q k : ℕ) (hk : k < 1000) (x : (⟨3, ![1000, p, q]⟩ : Shape).Idx → α) (u : (⟨3, ![1, p, q]⟩ : Shape).Idx → α)
    (st : Fin 3 → ℤ) (h : (⟨3, ![1000, p, q]⟩ : Shape).Slices (fun _ => 0) ⟨3, ![1, p, q]⟩) (e0 : st 0 = k) (e1 : st 1 = 0) (e2 : st 2 = 0) :
    Host.dynamicUpdateSlice x u st h = updateSlice x u ![k, 0, 0] (fits3 p q k hk) :=
  WordCmp.dynamicUpdateSlice_eq_update x u st h ![k, 0, 0] (fits3 p q k hk)
    (fun a => by match a with | ⟨0, _⟩ => exact e0 | ⟨1, _⟩ => exact e1 | ⟨2, _⟩ => exact e2)

/-- The hidden state of a trip at counter `k`. -/
theorem step_at (k : ℕ) (hk : k < 1000)
    (hc : V (Proc.devRef .tc main_v16_3) = fun _ => BitVec.ofNat 32 k) (b : Fin 256) (j : Fin 64) :
    nxt V b j = Ideal.tanh ((proj V ⟨k, hk⟩ b j + ∑ i : Fin 64, cur V b i * rec V ⟨k, hk⟩ j i) + bias V ⟨k, hk⟩ j) := by
  have ek : (BitVec.ofNat 32 k).toInt = (k : ℤ) := toInt_ofNat_of_lt (by omega)
  unfold nxt res_main_while0b_v40
  rw [hc]
  rw [slice3 256 64 k hk _ _ _ ek rfl rfl, slice3 64 64 k hk _ _ _ ek rfl rfl, slice2 64 k hk _ _ _ ek rfl]
  pointwise []

/-- The collected states after a trip at counter `k`: row `k` is the trip's hidden state, the others are kept. -/
theorem rows_at (k : ℕ) (hk : k < 1000)
    (hc : V (Proc.devRef .tc main_v16_3) = fun _ => BitVec.ofNat 32 k) (t : Fin 1000) (b : Fin 256) (j : Fin 64) :
    (step_main_v16_5 V : Vec Ideal S1000x256x64 .f32) (ix3 t b j)
      = if t.val = k then nxt V b j else rows V t b j := by
  have ek : (BitVec.ofNat 32 k).toInt = (k : ℤ) := toInt_ofNat_of_lt (by omega)
  unfold step_main_v16_5
  rw [hc, id]
  rw [update3 256 64 k hk _ _ _ _ ek rfl rfl]
  unfold nxt rows
  generalize res_main_while0b_v40 V = h
  pointwise []
  by_cases e : t.val = k
  · rw [if_pos e, dif_pos (by omega)]
  · rw [if_neg e, dif_neg (by omega)]

/-- The counter after a trip. -/
theorem ctr_next (k : ℕ) (hc : V (Proc.devRef .tc main_v16_3) = fun _ => BitVec.ofNat 32 k) :
    step_main_v16_3 V = fun _ => BitVec.ofNat 32 (k + 1) := by
  unfold step_main_v16_3
  rw [hc]
  funext i
  show BitVec.ofNat 32 k + 1#32 = BitVec.ofNat 32 (k + 1)
  rw [BitVec.ofNat_add]

/-! ## The result -/

theorem out_at (b : Fin 256) (t : Fin 1000) (z : Fin 1) :
    (out_main_v30 V : Vec Ideal S256x1000x1 .f32) (ix3 b t z)
      = Recur.squash ((∑ j : Fin 64, rows V t b j * head V (Recur.sg t.val) j) + headBias V (Recur.sg t.val)) := by
  unfold out_main_v30
  pointwise [Recur.squash]
  simp only [sg_eq]

end Cert.ReferenceIdeal.Hand

end
-- ==== Proof.RValue.lean ====
/-
  The reference's result: its loop carries the recurrence, so every entry of what it returns is the recurrence's output.
-/
module

public import proofs.«01_k».proof.Proof.RStep

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.ShloMosaic.StableHlo Idealize.ShloMosaic.HostLoop Idealize.SL.Sem

variable (m : (ℓ : Loc nD τ sig) → Buf (Elt Ideal) ℓ) (ρ : Dev nD → PrngReg)

/-- What the loop's buffers hold after `k` trips. -/
structure Carries (c : Dev nD) (k : ℕ) (V : Valuation τ sig (Elt Ideal)) : Prop where
  ctr : V (Proc.devRef .tc main_v16_3) = fun _ => BitVec.ofNat 32 k
  proj_eq : V (Proc.devRef .tc main_v16_0) = E0 m c (Proc.devRef .tc main_v16_0)
  rec_eq : V (Proc.devRef .tc main_v16_1) = E0 m c (Proc.devRef .tc main_v16_1)
  bias_eq : V (Proc.devRef .tc main_v16_2) = E0 m c (Proc.devRef .tc main_v16_2)
  cur_eq : ∀ b j, cur V b j = Recur.hid (args m c) b k j
  rows_eq : ∀ t : Fin 1000, t.val < k → ∀ b j, rows V t b j = Recur.hid (args m c) b (t.val + 1) j

/-- The trip at counter `k` makes the recurrence's next hidden state. -/
theorem nxt_hid (c : Dev nD) (k : ℕ) (hk : k < 1000) (V : Valuation τ sig (Elt Ideal)) (h : Carries m c k V) (b : Fin 256) (j : Fin 64) :
    nxt V b j = Recur.hid (args m c) b (k + 1) j := by
  rw [step_at V k hk h.ctr, show proj V ⟨k, hk⟩ b j = proj (E0 m c) ⟨k, hk⟩ b j by unfold proj; rw [h.proj_eq],
    show bias V ⟨k, hk⟩ j = bias (E0 m c) ⟨k, hk⟩ j by unfold bias; rw [h.bias_eq], entry_proj, entry_bias]
  have e : ∀ i, cur V b i * rec V ⟨k, hk⟩ j i = Recur.hid (args m c) b k i * (args m c).whh (Recur.sg k) j i := fun i => by
    rw [h.cur_eq, show rec V ⟨k, hk⟩ j i = rec (E0 m c) ⟨k, hk⟩ j i by unfold rec; rw [h.rec_eq], entry_rec]
  simp only [e]
  rw [Recur.hid, add_right_comm, add_assoc (∑ d : Fin 256, _)]

theorem carries (c : Dev nD) : ∀ k, k ≤ 1000 → Carries m c k (STEP^[k] (E0 m c))
  | 0, _ =>
    { ctr := ctr_entry m c
      proj_eq := rfl
      rec_eq := rfl
      bias_eq := rfl
      cur_eq := fun b j => entry_cur m c b j
      rows_eq := fun t ht => absurd ht (Nat.not_lt_zero _) }
  | k + 1, hk => by
    have ih := carries c k (by omega)
    rw [Function.iterate_succ_apply']
    generalize STEP^[k] (E0 m c) = V at ih
    exact {
      ctr := (STEP_main_v16_3 V).trans (ctr_next V k ih.ctr)
      proj_eq := (STEP_main_v16_0 V).trans ih.proj_eq
      rec_eq := (STEP_main_v16_1 V).trans ih.rec_eq
      bias_eq := (STEP_main_v16_2 V).trans ih.bias_eq
      cur_eq := fun b j => (congrFun (STEP_main_v16_4 V) (ix2 b j)).trans (nxt_hid m c k (by omega) V ih b j)
      rows_eq := fun t ht b j => by
        refine (congrFun (STEP_main_v16_5 V) (ix3 t b j)).trans ((rows_at V k (by omega) ih.ctr t b j).trans ?_)
        by_cases e : t.val = k
        · rw [if_pos e, e]; exact nxt_hid m c k (by omega) V ih b j
        · rw [if_neg e]; exact ih.rows_eq t (by omega) b j }

/-- What the reference returns. -/
theorem out_eq (c : Dev nD) (b : Fin 256) (t : Fin 1000) (z : Fin 1) :
    (out_main_v30 (STEP^[1000] (E0 m c)) : Vec Ideal S256x1000x1 .f32) (ix3 b t z) = Recur.out (args m c) b t.val := by
  have h := carries m c 1000 le_rfl
  rw [out_at]
  unfold Recur.out head headBias
  rw [iter_main_arg5, iter_main_arg6]
  simp only [h.rows_eq t t.isLt]
  rfl

end Cert.ReferenceIdeal.Hand

end
-- ==== Proof.Same.lean ====
/- Both programs run, and from the same arguments they return the same array. -/
module

public import proofs.«01_k».proof.Proof.IValue
public import proofs.«01_k».proof.Proof.RValue
public import proofs.«01_k».proof.Defs

@[expose] public section

noncomputable section

namespace Cert.Proof

open Idealize.ShloMosaic Idealize.ShloMosaic.TcCoe Idealize.SL.Sem

/-- What the reference returns is the recurrence's output, sequence by sequence and step by step. -/
theorem reference_result (m' : (ℓ : Loc ReferenceIdeal.nD ReferenceIdeal.τ ReferenceIdeal.sig) → Buf (Elt Ideal) ℓ) (c : Dev ReferenceIdeal.nD)
    (m : (ℓ : Loc KernelIdeal.nD KernelIdeal.τ KernelIdeal.sig) → Buf (Elt Ideal) ℓ)
    (h : ReferenceIdeal.Hand.args m' c = KernelIdeal.Hand.args m c) :
    (ReferenceIdeal.Value.out_main_v30 (ReferenceIdeal.Value.STEP^[1000] (ReferenceIdeal.Hand.E0 m' c)) : Vec Ideal ReferenceIdeal.S256x1000x1 .f32)
      = KernelIdeal.Hand.result m c := by
  funext i
  obtain ⟨b, t, z, rfl⟩ : ∃ (b : Fin 256) (t : Fin 1000) (z : Fin 1), i = ix3 b t z :=
    ⟨i 0, i 1, i 2, by funext a; match a with | ⟨0, _⟩ => rfl | ⟨1, _⟩ => rfl | ⟨2, _⟩ => rfl⟩
  rw [ReferenceIdeal.Hand.out_eq, h]
  rfl

theorem algebraic [hK : KernelIdeal.Facts] [hR : ReferenceIdeal.Facts] : algebraic_KernelIdeal_ReferenceIdeal := by
  intro m g m' g' _ hargs
  refine ⟨fun c => KernelIdeal.Hand.result m c, KernelIdeal.Hand.run_value m g,
    (θ_run ReferenceIdeal.defs _ _).mono (fun r h c => ⟨(h c).1.trans (reference_result m' c m ?_), (h c).2⟩) (ReferenceIdeal.Value.run m' g')⟩
  obtain ⟨h0, h1, h2, h3, h4, h5, h6⟩ := hargs c
  unfold ReferenceIdeal.Hand.args KernelIdeal.Hand.args ReferenceIdeal.Hand.X0 ReferenceIdeal.Hand.X1 ReferenceIdeal.Hand.X2
    ReferenceIdeal.Hand.X3 ReferenceIdeal.Hand.X4 ReferenceIdeal.Hand.X5 ReferenceIdeal.Hand.X6
  rw [h0, h1, h2, h3, h4, h5, h6]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KFrame
public import proofs.«01_k».proof.Proof.IFrame
public import proofs.«01_k».proof.Proof.RFrame
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Hand.frame m g, trivial, Cert.Proof.algebraic⟩

end Cert.Proof

end
